-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 2048]⟩ ⟨2, ![8192, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048 : Shape := ⟨1, ![2048]⟩
abbrev S2x2048 : Shape := ⟨2, ![2, 2048]⟩
abbrev S4x2x2048 : Shape := ⟨3, ![4, 2, 2048]⟩
abbrev S2x8 : Shape := ⟨2, ![2, 8]⟩
abbrev S3 : Shape := ⟨1, ![3]⟩
abbrev S4 : Shape := ⟨1, ![4]⟩
abbrev S1x1 : Shape := ⟨2, ![1, 1]⟩
abbrev S_ : Shape := ⟨0, ![]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1x1x2048 : Shape := ⟨3, ![1, 1, 2048]⟩
abbrev S1 : Shape := ⟨1, ![1]⟩
abbrev S1x2x2048 : Shape := ⟨3, ![1, 2, 2048]⟩

abbrev nBuf : Space → Nat
  | .hbm => 4
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S2048x2048, .f32⟩
  | .local _ .vmem, ⟨2, _⟩ => ⟨S2048x2048, .f32⟩
  | .local _ .vmem, ⟨3, _⟩ => ⟨S4x2x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_83 : BitVec 32 := 1#32
  let v68 : BitVec 32 := Scalar.addi v2 c1_i32_83
  let c4_i32_84 : BitVec 32 := 4#32
  let c0_i32_85 : BitVec 32 := 0#32
  let v69 : BitVec 1 := Scalar.cmpi .eq c4_i32_84 c0_i32_85
  let c1_i32_86 : BitVec 32 := 1#32
  let v70 : BitVec 32 := Scalar.select v69 c1_i32_86 c4_i32_84
  let v71 : BitVec 32 := Scalar.remsi v68 v70
  let c0_i32_88 : BitVec 32 := 0#32
  let v73 : BitVec 1 := Scalar.cmpi .slt v71 c0_i32_88
  let c0_i32_89 : BitVec 32 := 0#32
  let v74 : BitVec 1 := Scalar.cmpi .slt v70 c0_i32_89
  let v75 : BitVec 1 := Scalar.xori v73 v74
  let c0_i32_87 : BitVec 32 := 0#32
  let v72 : BitVec 1 := Scalar.cmpi .ne v71 c0_i32_87
  let v76 : BitVec 1 := Scalar.andi v75 v72
  let v77 : BitVec 32 := Scalar.addi v71 v70
  let v78 : BitVec 32 := Scalar.select v76 v77 v71
  let c1_i32_91 : BitVec 32 := 1#32
  let v79 : BitVec 32 := Scalar.muli v78 c1_i32_91
  let v80 : BitVec 32 := Scalar.addi c0_i32_92 v79
  v80.toNat
def k0_dev2 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_93 : BitVec 32 := 2#32
  let v81 : BitVec 32 := Scalar.addi v2 c2_i32_93
  let c4_i32_94 : BitVec 32 := 4#32
  let c0_i32_95 : BitVec 32 := 0#32
  let v82 : BitVec 1 := Scalar.cmpi .eq c4_i32_94 c0_i32_95
  let c1_i32_96 : BitVec 32 := 1#32
  let v83 : BitVec 32 := Scalar.select v82 c1_i32_96 c4_i32_94
  let v84 : BitVec 32 := Scalar.remsi v81 v83
  let c0_i32_98 : BitVec 32 := 0#32
  let v86 : BitVec 1 := Scalar.cmpi .slt v84 c0_i32_98
  let c0_i32_99 : BitVec 32 := 0#32
  let v87 : BitVec 1 := Scalar.cmpi .slt v83 c0_i32_99
  let v88 : BitVec 1 := Scalar.xori v86 v87
  let c0_i32_97 : BitVec 32 := 0#32
  let v85 : BitVec 1 := Scalar.cmpi .ne v84 c0_i32_97
  let v89 : BitVec 1 := Scalar.andi v88 v85
  let v90 : BitVec 32 := Scalar.addi v84 v83
  let v91 : BitVec 32 := Scalar.select v89 v90 v84
  let c1_i32_101 : BitVec 32 := 1#32
  let v92 : BitVec 32 := Scalar.muli v91 c1_i32_101
  let v93 : BitVec 32 := Scalar.addi c0_i32_102 v92
  v93.toNat
def k0_dev3 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_103 : BitVec 32 := 3#32
  let v94 : BitVec 32 := Scalar.addi v2 c3_i32_103
  let c4_i32_104 : BitVec 32 := 4#32
  let c0_i32_105 : BitVec 32 := 0#32
  let v95 : BitVec 1 := Scalar.cmpi .eq c4_i32_104 c0_i32_105
  let c1_i32_106 : BitVec 32 := 1#32
  let v96 : BitVec 32 := Scalar.select v95 c1_i32_106 c4_i32_104
  let v97 : BitVec 32 := Scalar.remsi v94 v96
  let c0_i32_108 : BitVec 32 := 0#32
  let v99 : BitVec 1 := Scalar.cmpi .slt v97 c0_i32_108
  let c0_i32_109 : BitVec 32 := 0#32
  let v100 : BitVec 1 := Scalar.cmpi .slt v96 c0_i32_109
  let v101 : BitVec 1 := Scalar.xori v99 v100
  let c0_i32_107 : BitVec 32 := 0#32
  let v98 : BitVec 1 := Scalar.cmpi .ne v97 c0_i32_107
  let v102 : BitVec 1 := Scalar.andi v101 v98
  let v103 : BitVec 32 := Scalar.addi v97 v96
  let v104 : BitVec 32 := Scalar.select v102 v103 v97
  let c1_i32_111 : BitVec 32 := 1#32
  let v105 : BitVec 32 := Scalar.muli v104 c1_i32_111
  let v106 : BitVec 32 := Scalar.addi c0_i32_112 v105
  v106.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v375 : Index := Scalar.indexCast v2
  let c0_294 : Index := 0#32
  let c0_295 : Index := 0#32
  ![v375.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v379 : Index := Scalar.indexCast v2
  let c1_296 : Index := 1#32
  let c0_297 : Index := 0#32
  ![v379.toNat, 1, 0]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_308 : BitVec 32 := 0#32
  let c0_i32_309 : BitVec 32 := 0#32
  ![v2.toNat, 0, 0]
def k0_dev4 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_298 : BitVec 32 := 2#32
  let v383 : BitVec 32 := Scalar.addi v2 c2_i32_298
  let c4_i32_299 : BitVec 32 := 4#32
  let c0_i32_300 : BitVec 32 := 0#32
  let v384 : BitVec 1 := Scalar.cmpi .eq c4_i32_299 c0_i32_300
  let c1_i32_301 : BitVec 32 := 1#32
  let v385 : BitVec 32 := Scalar.select v384 c1_i32_301 c4_i32_299
  let v386 : BitVec 32 := Scalar.remsi v383 v385
  let c0_i32_303 : BitVec 32 := 0#32
  let v388 : BitVec 1 := Scalar.cmpi .slt v386 c0_i32_303
  let c0_i32_304 : BitVec 32 := 0#32
  let v389 : BitVec 1 := Scalar.cmpi .slt v385 c0_i32_304
  let v390 : BitVec 1 := Scalar.xori v388 v389
  let c0_i32_302 : BitVec 32 := 0#32
  let v387 : BitVec 1 := Scalar.cmpi .ne v386 c0_i32_302
  let v391 : BitVec 1 := Scalar.andi v390 v387
  let v392 : BitVec 32 := Scalar.addi v386 v385
  let v393 : BitVec 32 := Scalar.select v391 v392 v386
  let c1_i32_306 : BitVec 32 := 1#32
  let v394 : BitVec 32 := Scalar.muli v393 c1_i32_306
  let v395 : BitVec 32 := Scalar.addi c0_i32_307 v394
  v395.toNat
def k0_dev5 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_312 : BitVec 32 := 1#32
  let v404 : BitVec 32 := Scalar.addi v2 c1_i32_312
  let c4_i32_313 : BitVec 32 := 4#32
  let c0_i32_314 : BitVec 32 := 0#32
  let v405 : BitVec 1 := Scalar.cmpi .eq c4_i32_313 c0_i32_314
  let c1_i32_315 : BitVec 32 := 1#32
  let v406 : BitVec 32 := Scalar.select v405 c1_i32_315 c4_i32_313
  let v407 : BitVec 32 := Scalar.remsi v404 v406
  let c0_i32_317 : BitVec 32 := 0#32
  let v409 : BitVec 1 := Scalar.cmpi .slt v407 c0_i32_317
  let c0_i32_318 : BitVec 32 := 0#32
  let v410 : BitVec 1 := Scalar.cmpi .slt v406 c0_i32_318
  let v411 : BitVec 1 := Scalar.xori v409 v410
  let c0_i32_316 : BitVec 32 := 0#32
  let v408 : BitVec 1 := Scalar.cmpi .ne v407 c0_i32_316
  let v412 : BitVec 1 := Scalar.andi v411 v408
  let v413 : BitVec 32 := Scalar.addi v407 v406
  let v414 : BitVec 32 := Scalar.select v412 v413 v407
  let c1_i32_320 : BitVec 32 := 1#32
  let v415 : BitVec 32 := Scalar.muli v414 c1_i32_320
  let v416 : BitVec 32 := Scalar.addi c0_i32_321 v415
  v416.toNat
def k0_dev6 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_326 : BitVec 32 := 3#32
  let v425 : BitVec 32 := Scalar.addi v2 c3_i32_326
  let c4_i32_327 : BitVec 32 := 4#32
  let c0_i32_328 : BitVec 32 := 0#32
  let v426 : BitVec 1 := Scalar.cmpi .eq c4_i32_327 c0_i32_328
  let c1_i32_329 : BitVec 32 := 1#32
  let v427 : BitVec 32 := Scalar.select v426 c1_i32_329 c4_i32_327
  let v428 : BitVec 32 := Scalar.remsi v425 v427
  let c0_i32_331 : BitVec 32 := 0#32
  let v430 : BitVec 1 := Scalar.cmpi .slt v428 c0_i32_331
  let c0_i32_332 : BitVec 32 := 0#32
  let v431 : BitVec 1 := Scalar.cmpi .slt v427 c0_i32_332
  let v432 : BitVec 1 := Scalar.xori v430 v431
  let c0_i32_330 : BitVec 32 := 0#32
  let v429 : BitVec 1 := Scalar.cmpi .ne v428 c0_i32_330
  let v433 : BitVec 1 := Scalar.andi v432 v429
  let v434 : BitVec 32 := Scalar.addi v428 v427
  let v435 : BitVec 32 := Scalar.select v433 v434 v428
  let c1_i32_334 : BitVec 32 := 1#32
  let v436 : BitVec 32 := Scalar.muli v435 c1_i32_334
  let v437 : BitVec 32 := Scalar.addi c0_i32_335 v436
  v437.toNat
def k0_off5 (d0 : Dev nD) (c1_i32_340 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v446 : BitVec 32 := Scalar.addi v2 c1_i32_340
  let c4_i32_341 : BitVec 32 := 4#32
  let c0_i32_342 : BitVec 32 := 0#32
  let v447 : BitVec 1 := Scalar.cmpi .eq c4_i32_341 c0_i32_342
  let c1_i32_343 : BitVec 32 := 1#32
  let v448 : BitVec 32 := Scalar.select v447 c1_i32_343 c4_i32_341
  let v449 : BitVec 32 := Scalar.remsi v446 v448
  let c0_i32_345 : BitVec 32 := 0#32
  let v451 : BitVec 1 := Scalar.cmpi .slt v449 c0_i32_345
  let c0_i32_346 : BitVec 32 := 0#32
  let v452 : BitVec 1 := Scalar.cmpi .slt v448 c0_i32_346
  let v453 : BitVec 1 := Scalar.xori v451 v452
  let c0_i32_344 : BitVec 32 := 0#32
  let v450 : BitVec 1 := Scalar.cmpi .ne v449 c0_i32_344
  let v454 : BitVec 1 := Scalar.andi v453 v450
  let v455 : BitVec 32 := Scalar.addi v449 v448
  let v456 : BitVec 32 := Scalar.select v454 v455 v449
  ![v456.toNat]
def k0_off6 (d0 : Dev nD) (c1_i32_340 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v446 : BitVec 32 := Scalar.addi v2 c1_i32_340
  let c4_i32_341 : BitVec 32 := 4#32
  let c0_i32_342 : BitVec 32 := 0#32
  let v447 : BitVec 1 := Scalar.cmpi .eq c4_i32_341 c0_i32_342
  let c1_i32_343 : BitVec 32 := 1#32
  let v448 : BitVec 32 := Scalar.select v447 c1_i32_343 c4_i32_341
  let v449 : BitVec 32 := Scalar.remsi v446 v448
  let c0_i32_345 : BitVec 32 := 0#32
  let v451 : BitVec 1 := Scalar.cmpi .slt v449 c0_i32_345
  let c0_i32_346 : BitVec 32 := 0#32
  let v452 : BitVec 1 := Scalar.cmpi .slt v448 c0_i32_346
  let v453 : BitVec 1 := Scalar.xori v451 v452
  let c0_i32_344 : BitVec 32 := 0#32
  let v450 : BitVec 1 := Scalar.cmpi .ne v449 c0_i32_344
  let v454 : BitVec 1 := Scalar.andi v453 v450
  let v455 : BitVec 32 := Scalar.addi v449 v448
  let v456 : BitVec 32 := Scalar.select v454 v455 v449
  let c0_i32_350 : BitVec 32 := 0#32
  let c0_i32_351 : BitVec 32 := 0#32
  ![v456.toNat, 0, 0]
def k0_off7 (d0 : Dev nD) (c1_i32_340 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v446 : BitVec 32 := Scalar.addi v2 c1_i32_340
  let c4_i32_341 : BitVec 32 := 4#32
  let c0_i32_342 : BitVec 32 := 0#32
  let v447 : BitVec 1 := Scalar.cmpi .eq c4_i32_341 c0_i32_342
  let c1_i32_343 : BitVec 32 := 1#32
  let v448 : BitVec 32 := Scalar.select v447 c1_i32_343 c4_i32_341
  let v449 : BitVec 32 := Scalar.remsi v446 v448
  let c0_i32_345 : BitVec 32 := 0#32
  let v451 : BitVec 1 := Scalar.cmpi .slt v449 c0_i32_345
  let c0_i32_346 : BitVec 32 := 0#32
  let v452 : BitVec 1 := Scalar.cmpi .slt v448 c0_i32_346
  let v453 : BitVec 1 := Scalar.xori v451 v452
  let c0_i32_344 : BitVec 32 := 0#32
  let v450 : BitVec 1 := Scalar.cmpi .ne v449 c0_i32_344
  let v454 : BitVec 1 := Scalar.andi v453 v450
  let v455 : BitVec 32 := Scalar.addi v449 v448
  let v456 : BitVec 32 := Scalar.select v454 v455 v449
  let v467 : Index := Scalar.indexCast v456
  let c0_356 : Index := 0#32
  let c0_357 : Index := 0#32
  ![v467.toNat, 0, 0]
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Windows.lean ====
/-
# The two inputs' row windows and their copies on chip

Each device copies its rows of `x` and of `dy`, 256 at a time, from its arrays into two buffers on chip, every copy on a
semaphore of its own. This module names those windows and states what starting one copy, waiting for it and loading the
window give, at any window: the copy lands the rows it read, so the window holds the array's own rows at its own place.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the exchange's rounds and the local copies' counters -/

abbrev UB : Type := URounds (GSem nD τ sig) (Dev nD)
abbrev UU : Type := UR sig nD τ × (UB × Counters)

local notation "𝕄" => MT nD τ sig Unit (Elt F) ℕ UU ℕ

/-- The pipeline's part of the algebra. -/
abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb (U := UU)

abbrev 𝒱₀ : Variants := Variants.none

/-! ## The windows -/

/-- The 256 rows from row `o` on. -/
abbrev rows (o : ℕ) (h : ∀ a, (![o, 0] : Fin 2 → ℕ) a + S256x2048.size a ≤ S2048x2048.size a) : Rect S2048x2048 :=
  Rect.unit (s := S2048x2048) ![o, 0] S256x2048.size h

section Win
variable (o : ℕ) (h : ∀ a, (![o, 0] : Fin 2 → ℕ) a + S256x2048.size a ≤ S2048x2048.size a)
  (b k : ℕ) (hs : ∀ a, (![b, k] : Fin 2 → ℕ) a + S1x1.size a ≤ S2x8.size a)

/-- Rows of `x`, of `dy`, and of the two buffers on chip they are copied into. -/
abbrev xH : Memref sig .tc .hbm S256x2048 .f32 := (Memref.whole main_arg0).slice (rows o h) (fun _ => rfl)
abbrev yH : Memref sig .tc .hbm S256x2048 .f32 := (Memref.whole main_arg1).slice (rows o h) (fun _ => rfl)
abbrev xV : Memref sig .tc .vmem S256x2048 .f32 := (Memref.whole cc0_scratch0).slice (rows o h) (fun _ => rfl)
abbrev yV : Memref sig .tc .vmem S256x2048 .f32 := (Memref.whole cc0_scratch1).slice (rows o h) (fun _ => rfl)
/-- The semaphore of row `b`, column `k` of the copies' array. -/
abbrev inS : DmaSem sig := ((cc0_scratch3.slice (Rect.unit (s := S2x8) ![b, k] S1x1.size hs)).squeeze S_ squeezes_S1x1_S_).sem

/-- The units a copy of 256 rows raises its semaphore by. -/
abbrev Nr : ℕ := (xV 0 inb_S2048x2048_S256x2048_0_0).view.dmaCredit
theorem Nr_pos : 0 < Nr := View.dmaCredit_pos _ (by decide)

/-- What a window of device `c`'s buffer holds. -/
abbrev held {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

abbrev XTy : Type := S2048x2048.Idx → Elt F .f32

/-- Before a copy of rows of `x` starts: the rows, the window it lands in, its semaphore at zero. -/
def idleX (c : Dev nD) (X : XTy (F := F)) : sProp 𝕄 :=
  iprop(held (xH o h) c X ∗ (∃ f, held (xV o h) c f) ∗ semVal ((c : Thread nD τ), SemLoc.dma (inS b k hs)) 0)
def idleY (c : Dev nD) (Y : XTy (F := F)) : sProp 𝕄 :=
  iprop(held (yH o h) c Y ∗ (∃ f, held (yV o h) c f) ∗ semVal ((c : Thread nD τ), SemLoc.dma (inS b k hs)) 0)
/-- While it flies. -/
def flyX (c : Dev nD) (X : XTy (F := F)) : sProp 𝕄 :=
  Transfers.Flight EC (c : Thread nD τ) (.dma (inS b k hs)) () Nr iprop(held (xV o h) c X ∗ held (xH o h) c X)
def flyY (c : Dev nD) (Y : XTy (F := F)) : sProp 𝕄 :=
  Transfers.Flight EC (c : Thread nD τ) (.dma (inS b k hs)) () Nr iprop(held (yV o h) c Y ∗ held (yH o h) c Y)
/-- After it has landed: the window holds the array's rows. -/
def doneX (c : Dev nD) (X : XTy (F := F)) : sProp 𝕄 :=
  iprop(held (xH o h) c X ∗ held (xV o h) c X ∗ semVal ((c : Thread nD τ), SemLoc.dma (inS b k hs)) 0)
def doneY (c : Dev nD) (Y : XTy (F := F)) : sProp 𝕄 :=
  iprop(held (yH o h) c Y ∗ held (yV o h) c Y ∗ semVal ((c : Thread nD τ), SemLoc.dma (inS b k hs)) 0)

omit [FloatOps F] in
/-- Rows read off an array and written at the same rows of a buffer of the array's shape: there, the array. -/
theorem landX (X fd : XTy (F := F)) : ∀ i ∈ (xV o h).view.set,
    (xV o h).view.write (Elt F) fd ((xH o h).view.read (Elt F) X) Finset.univ i = X i := by
  intro i hi
  obtain ⟨x, -, rfl⟩ := Finset.mem_map.mp hi
  exact (View.write_emb_of_mem (v := (xV o h).view) (Val := Elt F) fd _ (Finset.mem_univ x)).trans rfl

omit [FloatOps F] in
theorem landY (X fd : XTy (F := F)) : ∀ i ∈ (yV o h).view.set,
    (yV o h).view.write (Elt F) fd ((yH o h).view.read (Elt F) X) Finset.univ i = X i := by
  intro i hi
  obtain ⟨x, -, rfl⟩ := Finset.mem_map.mp hi
  exact (View.write_emb_of_mem (v := (yV o h).view) (Val := Elt F) fd _ (Finset.mem_univ x)).trans rfl

/-- What device `c` owes, whatever it has waited for. -/
def owing (c : Dev nD) (O : CellTallies nD τ sig Unit) : sProp 𝕄 := iprop(∃ W, owes (c : Thread nD τ) O W)

/-- The 256 rows of `X` from row `o` on. -/
def block (X : XTy (F := F)) : S256x2048.Idx → Elt F .f32 := (xH o h).view.read (Elt F) X

/-- Starting the copy of a window of `x`. -/
theorem issueX (c : Dev nD) (X : XTy (F := F)) {hsrc : (xH o h).view.WordExact} {hdst : (xV o h).view.WordExact}
    {hsem : DmaTarget.Typed (nD := nD) (τ := τ) (p := .tc) .hbm (.dma (inS b k hs)) (.here (xV o h))}
    {α : Type} {Q : α → sProp 𝕄} {p : PUnit → Prog (TpuEff nD τ sig (Elt F) Λ₀ .tc) α} :
    idleX o h b k hs c X
      ⊢ iprop((flyX o h b k hs c X -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (xH o h) (.here (xV o h)) (.dma (inS b k hs)) hsrc hdst hsem) p) Q) := by
  unfold idleX flyX
  iintro ⟨Hs, ⟨%f, Hd⟩, Hv⟩ Hk
  iapply (Transfers.wp_dmaLocal EC 𝒱₀ (c : Thread nD τ) none (src := xH o h) (dst := xV o h) () Nr rfl Nr_pos (Finset.Subset.refl _)) $$ [Hs Hd Hv]
  · isplitl [Hs]; · iexact Hs
    isplitl [Hd] <;> iassumption
  iintro HF
  iapply Hk
  ihave HF' := (Entails.of_eq (congrArg (fun D => Transfers.Flight EC (c : Thread nD τ) (.dma (inS b k hs)) () Nr iprop(D ∗ held (xH o h) c X))
    (pointsTo_congr (landX o h X f)))) $$ HF
  iexact HF'

/-- Waiting for it, on a core that may wait there. -/
theorem waitX (c : Dev nD) (X : XTy (F := F)) (O : CellTallies nD τ sig Unit)
    {hsrc : (xH o h).view.WordExact} {hdst : (xV o h).view.WordExact}
    {α : Type} {Q : α → sProp 𝕄} {p : PUnit → Prog (TpuEff nD τ sig (Elt F) Λ₀ .tc) α} :
    iprop(flyX o h b k hs c X ∗ owing c O ∗ MayWait (c : Thread nD τ) (.dma (inS b k hs)) () O)
      ⊢ iprop((iprop(doneX o h b k hs c X ∗ owing c O) -∗ wp frame (wpE (defs₀ (F := F)) 𝒱₀ (c : Thread nD τ) none) Set.univ (p ⟨⟩) Q)
          -∗ wp frame (wpE (defs₀ (F := F)) 𝒱₀ (c : Thread nD τ) none) Set.univ
              (.op (.waitDma2 (inS b k hs) (xH o h) (xV o h) hsrc hdst) p) Q) := by
  unfold doneX flyX owing
  iintro ⟨HF, ⟨%W, HO⟩, HM⟩ Hk
  iapply (Transfers.wp_waitLocalO EC 𝒱₀ (c : Thread nD τ) none () rfl) $$ [HF HO HM]
  · isplitl [HF]; · iexact HF
    isplitl [HO]; · iexact HO
    iexact HM
  iintro ⟨⟨Hd, Hs⟩, Hv, HO⟩
  iapply Hk
  isplitr [HO]
  · isplitl [Hs]; · iexact Hs
    isplitl [Hd] <;> iassumption
  iexists _; iexact HO

/-- Loading it. -/
theorem loadX (c : Dev nD) (X : XTy (F := F)) {hl : (Memref.whole cc0_scratch0 : Memref sig .tc .vmem S2048x2048 .f32).view.LoadsAt (rows o h).toLoadRect}
    {α : Type} {Q : α → sProp 𝕄} {p : (S256x2048.Idx → Elt F .f32) → Prog (TpuEff nD τ sig (Elt F) Λ₀ .tc) α} :
    doneX o h b k hs c X
      ⊢ iprop((doneX o h b k hs c X -∗ wp frame (wpE (defs₀ (F := F)) 𝒱₀ (c : Thread nD τ) none) Set.univ (p (block o h X)) Q)
          -∗ wp frame (wpE (defs₀ (F := F)) 𝒱₀ (c : Thread nD τ) none) Set.univ
              (.op (.load (Memref.whole cc0_scratch0) (rows o h).toLoadRect hl) p) Q) := by
  unfold doneX
  iintro ⟨Hs, Hd, Hv⟩ Hk
  iapply (wp_load_rect 𝒱₀ (c : Thread nD τ) none Set.univ (m := Memref.whole cc0_scratch0) (r := rows o h) (Finset.Subset.refl _)) $$ Hd
  iintro Hd
  iapply Hk
  isplitl [Hs]; · iexact Hs
  isplitl [Hd] <;> iassumption

/-- Starting the copy of a window of `y`. -/
theorem issueY (c : Dev nD) (X : XTy (F := F)) {hsrc : (yH o h).view.WordExact} {hdst : (yV o h).view.WordExact}
    {hsem : DmaTarget.Typed (nD := nD) (τ := τ) (p := .tc) .hbm (.dma (inS b k hs)) (.here (yV o h))}
    {α : Type} {Q : α → sProp 𝕄} {p : PUnit → Prog (TpuEff nD τ sig (Elt F) Λ₀ .tc) α} :
    idleY o h b k hs c X
      ⊢ iprop((flyY o h b k hs c X -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (yH o h) (.here (yV o h)) (.dma (inS b k hs)) hsrc hdst hsem) p) Q) := by
  unfold idleY flyY
  iintro ⟨Hs, ⟨%f, Hd⟩, Hv⟩ Hk
  iapply (Transfers.wp_dmaLocal EC 𝒱₀ (c : Thread nD τ) none (src := yH o h) (dst := yV o h) () Nr rfl Nr_pos (Finset.Subset.refl _)) $$ [Hs Hd Hv]
  · isplitl [Hs]; · iexact Hs
    isplitl [Hd] <;> iassumption
  iintro HF
  iapply Hk
  ihave HF' := (Entails.of_eq (congrArg (fun D => Transfers.Flight EC (c : Thread nD τ) (.dma (inS b k hs)) () Nr iprop(D ∗ held (yH o h) c X))
    (pointsTo_congr (landY o h X f)))) $$ HF
  iexact HF'

/-- Waiting for it, on a core that may wait there. -/
theorem waitY (c : Dev nD) (X : XTy (F := F)) (O : CellTallies nD τ sig Unit)
    {hsrc : (yH o h).view.WordExact} {hdst : (yV o h).view.WordExact}
    {α : Type} {Q : α → sProp 𝕄} {p : PUnit → Prog (TpuEff nD τ sig (Elt F) Λ₀ .tc) α} :
    iprop(flyY o h b k hs c X ∗ owing c O ∗ MayWait (c : Thread nD τ) (.dma (inS b k hs)) () O)
      ⊢ iprop((iprop(doneY o h b k hs c X ∗ owing c O) -∗ wp frame (wpE (defs₀ (F := F)) 𝒱₀ (c : Thread nD τ) none) Set.univ (p ⟨⟩) Q)
          -∗ wp frame (wpE (defs₀ (F := F)) 𝒱₀ (c : Thread nD τ) none) Set.univ
              (.op (.waitDma2 (inS b k hs) (yH o h) (yV o h) hsrc hdst) p) Q) := by
  unfold doneY flyY owing
  iintro ⟨HF, ⟨%W, HO⟩, HM⟩ Hk
  iapply (Transfers.wp_waitLocalO EC 𝒱₀ (c : Thread nD τ) none () rfl) $$ [HF HO HM]
  · isplitl [HF]; · iexact HF
    isplitl [HO]; · iexact HO
    iexact HM
  iintro ⟨⟨Hd, Hs⟩, Hv, HO⟩
  iapply Hk
  isplitr [HO]
  · isplitl [Hs]; · iexact Hs
    isplitl [Hd] <;> iassumption
  iexists _; iexact HO

/-- Loading it. -/
theorem loadY (c : Dev nD) (X : XTy (F := F)) {hl : (Memref.whole cc0_scratch1 : Memref sig .tc .vmem S2048x2048 .f32).view.LoadsAt (rows o h).toLoadRect}
    {α : Type} {Q : α → sProp 𝕄} {p : (S256x2048.Idx → Elt F .f32) → Prog (TpuEff nD τ sig (Elt F) Λ₀ .tc) α} :
    doneY o h b k hs c X
      ⊢ iprop((doneY o h b k hs c X -∗ wp frame (wpE (defs₀ (F := F)) 𝒱₀ (c : Thread nD τ) none) Set.univ (p (block o h X)) Q)
          -∗ wp frame (wpE (defs₀ (F := F)) 𝒱₀ (c : Thread nD τ) none) Set.univ
              (.op (.load (Memref.whole cc0_scratch1) (rows o h).toLoadRect hl) p) Q) := by
  unfold doneY
  iintro ⟨Hs, Hd, Hv⟩ Hk
  iapply (wp_load_rect 𝒱₀ (c : Thread nD τ) none Set.univ (m := Memref.whole cc0_scratch1) (r := rows o h) (Finset.Subset.refl _)) $$ Hd
  iintro Hd
  iapply Hk
  isplitl [Hs]; · iexact Hs
  isplitl [Hd] <;> iassumption

end Win
end Cert.LayerNorm
-- ==== Proof.Contents.lean ====
/-
# What the buffers hold

The device's two rows of sums over its own rows of `x` and `dy`, as the kernel's eight steps build them; the exchange
buffer, slot `j` of which holds device `j`'s two rows on every device once all have arrived; and the result, a device's
own rows plus the other three devices' in the order the kernel adds them.
-/
module

public import proofs.«01_k».proof.Proof.Windows
public import Idealize.ShloMosaic.Lib.ValueIdxCore
public import Idealize.ShloMosaic.Lib.ValueLayout

@[expose] public section

noncomputable section

namespace Cert.LayerNorm

open Cert.KernelIdeal Cert.KernelIdeal.Gen

open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One device's sums -/

section Sums
variable (X Y : XTy (F := F))

/-- The eight blocks of 256 rows. -/
abbrev blk0 : S256x2048.Idx → Elt F .f32 := block 0 inb_S2048x2048_S256x2048_0_0 X
abbrev blk1 : S256x2048.Idx → Elt F .f32 := block 256 inb_S2048x2048_S256x2048_256_0 X
abbrev blk2 : S256x2048.Idx → Elt F .f32 := block 512 inb_S2048x2048_S256x2048_512_0 X
abbrev blk3 : S256x2048.Idx → Elt F .f32 := block 768 inb_S2048x2048_S256x2048_768_0 X
abbrev blk4 : S256x2048.Idx → Elt F .f32 := block 1024 inb_S2048x2048_S256x2048_1024_0 X
abbrev blk5 : S256x2048.Idx → Elt F .f32 := block 1280 inb_S2048x2048_S256x2048_1280_0 X
abbrev blk6 : S256x2048.Idx → Elt F .f32 := block 1536 inb_S2048x2048_S256x2048_1536_0 X
abbrev blk7 : S256x2048.Idx → Elt F .f32 := block 1792 inb_S2048x2048_S256x2048_1792_0 X

/-- The column sums of `dy * xhat` over the first block, the first two, … the first seven. -/
def g1 : FVec F S1x2048 .f32 := k0_pay5 (k0_pay1 (F := F)) (blk0 Y) (k0_pay3 (blk0 X)) (k0_pay4 (blk0 X))
def g2 : FVec F S1x2048 .f32 := k0_pay9 (g1 X Y) (blk1 Y) (k0_pay7 (blk1 X)) (k0_pay8 (blk1 X))
def g3 : FVec F S1x2048 .f32 := k0_pay14 (g2 X Y) (blk2 Y) (k0_pay11 (blk2 X)) (k0_pay12 (blk2 X)) (k0_pay13 (F := F))
def g4 : FVec F S1x2048 .f32 := k0_pay18 (g3 X Y) (blk3 Y) (k0_pay16 (blk3 X)) (k0_pay17 (blk3 X)) (Scalar.ofBits .f32 0x3727C5AC)
def g5 : FVec F S1x2048 .f32 := k0_pay22 (g4 X Y) (blk4 Y) (k0_pay20 (blk4 X)) (k0_pay21 (blk4 X))
def g6 : FVec F S1x2048 .f32 := k0_pay26 (g5 X Y) (blk5 Y) (k0_pay24 (blk5 X)) (k0_pay25 (blk5 X))
def g7 : FVec F S1x2048 .f32 := k0_pay29 (g6 X Y) (k0_pay28 (blk6 X) (blk6 Y))
/-- The last block's column sums of `dy * xhat`. -/
def lastG : FVec F S2048 .f32 := k0_pay31 (blk7 X) (blk7 Y)
/-- The column sums of `dy` over the first block, the first two, … the first seven. -/
def b1 : FVec F S1x2048 .f32 := k0_pay6 (k0_pay2 (F := F)) (blk0 Y)
def b2 : FVec F S1x2048 .f32 := k0_pay10 (b1 Y) (blk1 Y)
def b3 : FVec F S1x2048 .f32 := k0_pay15 (b2 Y) (blk2 Y)
def b4 : FVec F S1x2048 .f32 := k0_pay19 (b3 Y) (blk3 Y)
def b5 : FVec F S1x2048 .f32 := k0_pay23 (b4 Y) (blk4 Y)
def b6 : FVec F S1x2048 .f32 := k0_pay27 (b5 Y) (blk5 Y)
def b7 : FVec F S1x2048 .f32 := k0_pay30 (b6 Y) (blk6 Y)

/-- All eight blocks' column sums of `dy * xhat` and of `dy`. -/
def sumG : FVec F S1x2048 .f32 := k0_pay32 (g7 X Y) (lastG X Y)
def sumB : FVec F S1x2048 .f32 := k0_pay33 (b7 Y) (blk7 Y)

/-- The two rows together. -/
def partV : S2x2048.Idx → Elt F .f32 := fun i => if (i 0).val = 0 then sumG X Y (ix2 0 (i 1)) else sumB Y (ix2 0 (i 1))

end Sums

/-! ## The devices -/

variable (m : (ℓ : Loc nD τ sig) → Buf (Elt F) ℓ)

/-- Device `c`'s rows of `x` and of `dy`. -/
abbrev Xd (c : Dev nD) : XTy (F := F) := m ((c : Thread nD τ).loc main_arg0)
abbrev Yd (c : Dev nD) : XTy (F := F) := m ((c : Thread nD τ).loc main_arg1)

/-- Device `c`'s two rows of sums. -/
def part (c : Dev nD) : S2x2048.Idx → Elt F .f32 := partV (Xd m c) (Yd m c)

/-- The exchange buffer, all slots arrived. -/
def commV : S4x2x2048.Idx → Elt F .f32 := fun i => part m (i 0) (ix2 (i 1) (i 2))

/-- Slot `j` of it, as a load of the slot gives it. -/
def slotV (j : Dev nD) : S1x2x2048.Idx → Elt F .f32 := fun x => part m j (ix2 (x 1) (x 2))

/-- The device `k` places after `c` on the ring of four. -/
def pl (k : ℕ) (c : Dev nD) : Dev nD := ⟨(c.val + k) % 4, Nat.mod_lt _ (by decide)⟩

/-- Device `c`'s result after one, two and three of the other devices' rows. -/
def out1 (c : Dev nD) : S2x2048.Idx → Elt F .f32 := k0_pay36 (part m c) (slotV m (pl 1 c))
def out2 (c : Dev nD) : S2x2048.Idx → Elt F .f32 := k0_pay37 (out1 m c) (slotV m (pl 3 c))
def outV (c : Dev nD) : S2x2048.Idx → Elt F .f32 := k0_pay38 (out2 m c) (slotV m (pl 2 c))

/-! ## The slots of the exchange buffer -/

/-- Slot `j` of the exchange buffer. -/
abbrev slotM (j : Dev nD) : Memref sig .tc .vmem S2x2048 .f32 :=
  ((Memref.whole cc0_scratch2 : Memref sig .tc .vmem S4x2x2048 .f32).slice (Rect.unit (s := S4x2x2048) (k0_off4 j) S1x2x2048.size (k0_off4_inb j)) (fun _ => rfl)).squeeze
    S2x2048 squeezes_S1x2x2048_S2x2048

omit [FloatOps F] in
/-- An index lies in slot `j` exactly when its leading coordinate is `j`. -/
theorem mem_slot (j : Dev nD) (i : S4x2x2048.Idx) : i ∈ (slotM j).view.set ↔ (i 0) = j := by
  rw [show (slotM j).view.set = (Rect.unit (s := S4x2x2048) (k0_off4 j) S1x2x2048.size (k0_off4_inb j)).set from
    (View.set_reshape _ _).trans (View.set_slice_whole _ _), Rect.mem_set_unit, k0_off4_eq]
  constructor
  · intro h
    have := h 0
    simp at this
    exact Fin.ext (by omega)
  · rintro rfl a
    fin_cases a
    · simp
    · have := (i 1).isLt; simp at this ⊢; exact this
    · have := (i 2).isLt; simp at this ⊢; exact this

omit [FloatOps F] in
/-- An index lies in a window of rows exactly when its row does. -/
theorem mem_rows (o : ℕ) (h : ∀ a, (![o, 0] : Fin 2 → ℕ) a + S256x2048.size a ≤ S2048x2048.size a) (i : S2048x2048.Idx) :
    i ∈ (rows o h).set ↔ o ≤ (i 0).val ∧ (i 0).val < o + 256 := by
  rw [Rect.mem_set_unit]
  constructor
  · intro h; have := h 0; simpa using this
  · intro h a
    fin_cases a
    · simpa using h
    · have := (i 1).isLt; simp at this ⊢; exact this

end Cert.LayerNorm
-- ==== Proof.Cells.lean ====
/-
# The exchange: its cells, and what is handed over on each

Four devices, each holding the exchange buffer of four slots. A device's barrier cell is raised one unit by each of the
other three, and each raise hands over the slot the raised device may write to on the raiser, and that the raiser's
receive cell for it is at its start. Receive cell `j` of a device is raised by device `j`'s transfer into slot `j`, which
hands the slot over holding device `j`'s two rows. A device's three send cells hand back the three shares of its own slot
that its three transfers read.
-/
module

public import proofs.«01_k».proof.Proof.Contents

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring of four -/

theorem pl_pl13 (c : Dev nD) : pl 1 (pl 3 c) = c := by revert c; decide
theorem pl_pl31 (c : Dev nD) : pl 3 (pl 1 c) = c := by revert c; decide
theorem pl_pl22 (c : Dev nD) : pl 2 (pl 2 c) = c := by revert c; decide
theorem pl1_ne (c : Dev nD) : pl 1 c ≠ c := by revert c; decide
theorem pl2_ne (c : Dev nD) : pl 2 c ≠ c := by revert c; decide
theorem pl3_ne (c : Dev nD) : pl 3 c ≠ c := by revert c; decide
theorem pl12_ne (c : Dev nD) : pl 1 c ≠ pl 2 c := by revert c; decide
theorem pl13_ne (c : Dev nD) : pl 1 c ≠ pl 3 c := by revert c; decide
theorem pl23_ne (c : Dev nD) : pl 2 c ≠ pl 3 c := by revert c; decide

/-- The devices the three signals and the three transfers address. -/
theorem dev1_eq (c : Dev nD) : (⟨k0_dev1 c, k0_dev1_lt c⟩ : Dev nD) = pl 1 c := by revert c; decide
theorem dev2_eq (c : Dev nD) : (⟨k0_dev2 c, k0_dev2_lt c⟩ : Dev nD) = pl 2 c := by revert c; decide
theorem dev3_eq (c : Dev nD) : (⟨k0_dev3 c, k0_dev3_lt c⟩ : Dev nD) = pl 3 c := by revert c; decide
theorem dev4_eq (c : Dev nD) : (⟨k0_dev4 c, k0_dev4_lt c⟩ : Dev nD) = pl 2 c := by revert c; decide
theorem dev5_eq (c : Dev nD) : (⟨k0_dev5 c, k0_dev5_lt c⟩ : Dev nD) = pl 1 c := by revert c; decide
theorem dev6_eq (c : Dev nD) : (⟨k0_dev6 c, k0_dev6_lt c⟩ : Dev nD) = pl 3 c := by revert c; decide

/-- Turning the ring by one and by two places. -/
def turn1 : Dev nD ≃ Dev nD := ⟨pl 1, pl 3, pl_pl31, pl_pl13⟩
def turn2 : Dev nD ≃ Dev nD := ⟨pl 2, pl 2, pl_pl22, pl_pl22⟩

/-! ## The semaphores and cells -/

abbrev barS : Sem sig := (SemArray.scalar (sig.barrier 0 rfl) : Sems sig S_).sem
abbrev sendS (i : ℕ) (h : ∀ a, (![i] : Fin 1 → ℕ) a + S1.size a ≤ S3.size a) : DmaSem sig :=
  ((cc0_scratch4.slice (Rect.unit (s := S3) ![i] S1.size h)).squeeze S_ squeezes_S1_S_).sem
abbrev send0 : DmaSem sig := sendS 0 inb_S3_S1_0
abbrev send1 : DmaSem sig := sendS 1 inb_S3_S1_1
abbrev send2 : DmaSem sig := sendS 2 inb_S3_S1_2
/-- The semaphore slot `j`'s transfer raises where it lands. -/
abbrev recvS (j : Dev nD) : DmaSem sig := ((cc0_scratch5.slice (Rect.unit (s := S4) (k0_off3 j) S1.size (k0_off3_inb j))).squeeze S_ squeezes_S1_S_).sem

abbrev barCell (c : Dev nD) : GSem nD τ sig := ((c : Thread nD τ), .reg barS)
abbrev sendCell (c : Dev nD) (s : DmaSem sig) : GSem nD τ sig := ((c : Thread nD τ), .dma s)
abbrev recvCell (c j : Dev nD) : GSem nD τ sig := ((c : Thread nD τ), .dma (recvS j))

/-- All eight cells of a device: its barrier, three send, four receive. -/
abbrev csem : Fin 8 → SemLoc sig := fun
  | 0 => .reg barS | 1 => .dma send0 | 2 => .dma send1 | 3 => .dma send2
  | 4 => .dma (recvS 0) | 5 => .dma (recvS 1) | 6 => .dma (recvS 2) | 7 => .dma (recvS 3)
abbrev kcell (ck : Dev nD × Fin 8) : GSem nD τ sig := ((ck.1 : Thread nD τ), csem ck.2)

/-- A receive cell's number among them. -/
def rk (j : Dev nD) : Fin 8 := ⟨4 + j.val, Nat.add_lt_add_left j.isLt 4⟩
theorem kcell_rk (c j : Dev nD) : kcell (c, rk j) = recvCell c j := by fin_cases j <;> rfl

/-- The units a slot's transfer raises a semaphore by. -/
abbrev N : ℕ := (slotM 0).view.dmaCredit
theorem N_pos : 0 < N := View.dmaCredit_pos _ (by decide)
theorem N_slot (j : Dev nD) : (slotM j).view.dmaCredit = N := rfl

theorem recv_inj {j j' : Dev nD} (h : recvS j = recvS j') : j = j' := by revert j j'; decide
theorem recv_ne_send (j : Dev nD) : recvS j ≠ send0 ∧ recvS j ≠ send1 ∧ recvS j ≠ send2 := by revert j; decide
theorem send01 : send0 ≠ send1 := by decide
theorem send02 : send0 ≠ send2 := by decide
theorem send12 : send1 ≠ send2 := by decide

/-! ## What is handed over -/

/-- Device `d`'s slot `j` at share `q`. -/
def slotPts (q : PosShare TreeShare) (d j : Dev nD) (f : S4x2x2048.Idx → Elt F .f32) : sProp 𝕄 :=
  (slotM j).view.loc (d : Thread nD τ) ↦[(slotM j).view.set]{q} f

omit [FloatOps F] in
instance slotPts_storable (q) (d j : Dev nD) (f) : BI.Storable (upEmb : UEmb _ 𝕄) (slotPts (F := F) q d j f) := by unfold slotPts; infer_instance

/-- What device `p`'s signal hands device `c`: slot `c` of `p`'s buffer, and that `p`'s receive cell for it is at its start. -/
def barPay (c p : Dev nD) : sProp 𝕄 := iprop((∃ f, slotPts fullShare p c f) ∗ reached ER (recvCell p c) 0)

/-- The share of its own slot each of a device's transfers reads. -/
def shareOf (s : SemLoc sig) : PosShare TreeShare :=
  if s = .dma send0 then fullShare.left else if s = .dma send1 then fullShare.right.left else fullShare.right.right

variable (m : (ℓ : Loc nD τ sig) → Buf (Elt F) ℓ)

/-- The duty named `d` on semaphore `s` of device `c`. -/
abbrev Duty (c : Dev nD) (s : SemLoc sig) (d : Dev nD) : Prop :=
  (s = .reg barS ∧ d ≠ c) ∨ (s = .dma (recvS d) ∧ d ≠ c) ∨ (d = 0 ∧ (s = .dma send0 ∨ s = .dma send1 ∨ s = .dma send2))

/-- One round on each cell. -/
def Rd : Rounds.Schedule (GSem nD τ sig) (Dev nD) 𝕄 where
  duties g r := if r = 0 ∧ g.1.2 = .tc then Finset.univ.filter (Duty g.1.1 g.2) else ∅
  unitless _ := False
  amount g _ _ := if g.2 = .reg barS then 1 else N
  payload g _ d :=
    if g.2 = .reg barS then barPay g.1.1 d
    else if g.2 = .dma (recvS d) then slotPts fullShare g.1.1 d (commV m)
    else slotPts (shareOf g.2) g.1.1 g.1.1 (commV m)
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd (F := F) m).payload g r d) := by
  show BI.Storable upEmb (if g.2 = .reg barS then barPay g.1.1 d
    else if g.2 = .dma (recvS d) then slotPts fullShare g.1.1 d (commV m)
    else slotPts (shareOf g.2) g.1.1 g.1.1 (commV m))
  unfold barPay
  (repeat' split) <;> infer_instance

section Sched
variable (c : Dev nD)

theorem dma_ne_bar (s : DmaSem sig) : (SemLoc.dma s : SemLoc sig) ≠ .reg barS := fun h => by cases h

theorem duties_tc (s : SemLoc sig) : (Rd (F := F) m).duties ((c : Thread nD τ), s) 0 = Finset.univ.filter (Duty c s) := by
  dsimp only [Rd]; exact if_pos ⟨rfl, rfl⟩
theorem duties_bar : (Rd (F := F) m).duties (barCell c) 0 = {pl 1 c, pl 2 c, pl 3 c} := by
  rw [duties_tc]; revert c; decide
theorem duties_recv {j : Dev nD} (h : j ≠ c) : (Rd (F := F) m).duties (recvCell c j) 0 = {j} := by
  rw [duties_tc]; revert c j; decide
theorem duties_send0 : (Rd (F := F) m).duties (sendCell c send0) 0 = {0} := by rw [duties_tc]; revert c; decide
theorem duties_send1 : (Rd (F := F) m).duties (sendCell c send1) 0 = {0} := by rw [duties_tc]; revert c; decide
theorem duties_send2 : (Rd (F := F) m).duties (sendCell c send2) 0 = {0} := by rw [duties_tc]; revert c; decide
/-- Nothing is ever paid on a device's receive cell for its own slot. -/
theorem duties_self : ∀ r, 0 ≤ r → (Rd (F := F) m).duties (recvCell c c) r = ∅ := by
  intro r _
  rcases Nat.eq_zero_or_pos r with rfl | hr
  · rw [duties_tc]; revert c; decide
  · dsimp only [Rd]; rw [if_neg fun h => by omega]
theorem duties_later (g : GSem nD τ sig) : ∀ r, 1 ≤ r → (Rd (F := F) m).duties g r = ∅ :=
  fun r hr => by dsimp only [Rd]; rw [if_neg fun h => by omega]

theorem amount_bar (d : Dev nD) : (Rd (F := F) m).amount (barCell c) 0 d = 1 := by dsimp only [Rd]; exact if_pos rfl
theorem amount_dma (s : DmaSem sig) (d : Dev nD) : (Rd (F := F) m).amount (sendCell c s) 0 d = N := by
  dsimp only [Rd]; exact if_neg (dma_ne_bar s)

theorem expect_bar : (Rd (F := F) m).expect (barCell c) 0 = 3 := by
  unfold Schedule.expect Schedule.amountOf
  rw [duties_bar, Finset.sum_congr rfl fun d _ => amount_bar m c d, Finset.sum_const, smul_eq_mul, mul_one]
  revert c; decide
theorem expect_one {s : DmaSem sig} {d : Dev nD} (h : (Rd (F := F) m).duties (sendCell c s) 0 = {d}) :
    (Rd (F := F) m).expect (sendCell c s) 0 = N := by
  unfold Schedule.expect Schedule.amountOf; rw [h, Finset.sum_singleton, amount_dma]

theorem payload_bar (d : Dev nD) : (Rd (F := F) m).payload (barCell c) 0 d = barPay c d := by dsimp only [Rd]; rw [if_pos rfl]
theorem payload_recv (j : Dev nD) : (Rd (F := F) m).payload (recvCell c j) 0 j = slotPts fullShare c j (commV m) := by
  dsimp only [Rd]; rw [if_neg (dma_ne_bar _), if_pos rfl]
theorem payload_send {s : DmaSem sig} (h : s = send0 ∨ s = send1 ∨ s = send2) :
    (Rd (F := F) m).payload (sendCell c s) 0 0 = slotPts (shareOf (.dma s)) c c (commV m) := by
  dsimp only [Rd]; rw [if_neg (dma_ne_bar _), if_neg]
  rcases h with rfl | rfl | rfl <;> decide
theorem share0 : shareOf (.dma send0) = fullShare.left := by unfold shareOf; rw [if_pos rfl]
theorem share1 : shareOf (.dma send1) = fullShare.right.left := by unfold shareOf; rw [if_neg (by decide), if_pos rfl]
theorem share2 : shareOf (.dma send2) = fullShare.right.right := by unfold shareOf; rw [if_neg (by decide), if_neg (by decide)]

/-- What the barrier's wait hands over: from each of the other three devices, its slot for `c`. -/
theorem rest_bar : bigSep ((Rd (F := F) m).duties (barCell c) 0 \ ∅) (fun d => (Rd (F := F) m).payload (barCell c) 0 d)
    = iprop(barPay c (pl 1 c) ∗ barPay c (pl 2 c) ∗ barPay c (pl 3 c)) := by
  rw [Finset.sdiff_empty, duties_bar, bigSep_eq_bigSepL_of_eq [pl 1 c, pl 2 c, pl 3 c] (by revert c; decide) (by revert c; decide)]
  simp only [bigSepL_cons_cons, bigSepL_singleton, payload_bar]
  rfl
theorem rest_recv {j : Dev nD} (h : j ≠ c) : bigSep ((Rd (F := F) m).duties (recvCell c j) 0 \ ∅) (fun d => (Rd (F := F) m).payload (recvCell c j) 0 d)
    = slotPts fullShare c j (commV m) := by
  rw [Finset.sdiff_empty, duties_recv m c h, bigSep_singleton, payload_recv]
theorem rest_send {s : DmaSem sig} (h : s = send0 ∨ s = send1 ∨ s = send2) :
    bigSep ((Rd (F := F) m).duties (sendCell c s) 0 \ ∅) (fun d => (Rd (F := F) m).payload (sendCell c s) 0 d)
      = slotPts (shareOf (.dma s)) c c (commV m) := by
  rw [Finset.sdiff_empty, show (Rd (F := F) m).duties (sendCell c s) 0 = {0} from by
    rcases h with rfl | rfl | rfl
    · exact duties_send0 m c
    · exact duties_send1 m c
    · exact duties_send2 m c, bigSep_singleton, payload_send m c h]

end Sched

/-! ## What each device owes at launch; the levels -/

/-- What is still owed before the third transfer, before the second, before the first. -/
def OT3 (c : Dev nD) : CellTallies nD τ sig Unit := tallyAt (recvCell (pl 3 c) c) () N
def OT2 (c : Dev nD) : CellTallies nD τ sig Unit := OT3 c + tallyAt (recvCell (pl 1 c) c) () N
def OT1 (c : Dev nD) : CellTallies nD τ sig Unit := OT2 c + tallyAt (recvCell (pl 2 c) c) () N
/-- Before the third signal, the second, the first. -/
def OS3 (c : Dev nD) : CellTallies nD τ sig Unit := OT1 c + tallyAt (barCell (pl 3 c)) () 1
def OS2 (c : Dev nD) : CellTallies nD τ sig Unit := OS3 c + tallyAt (barCell (pl 2 c)) () 1
def O₀ (c : Dev nD) : CellTallies nD τ sig Unit := OS2 c + tallyAt (barCell (pl 1 c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c j : Dev nD) (u : Unit) : lv (recvCell c j) u = 2 := by
  unfold lv; rw [if_neg (dma_ne_bar _)]; exact if_pos ⟨j, rfl⟩

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h
theorem OT1_pos {c : Dev nD} {g : GSem nD τ sig} {u : Unit} (h : 0 < OT1 c g u) : ∃ d, g = recvCell d c := by
  unfold OT1 OT2 OT3 at h
  simp only [Pi.add_apply, Finsupp.add_apply] at h
  rcases Nat.add_pos_iff_pos_or_pos.mp h with h | h
  · rcases Nat.add_pos_iff_pos_or_pos.mp h with h | h
    · exact ⟨_, tally_pos h⟩
    · exact ⟨_, tally_pos h⟩
  · exact ⟨_, tally_pos h⟩
theorem O₀_pos {c : Dev nD} {g : GSem nD τ sig} {u : Unit} (h : 0 < O₀ c g u) : (∃ d, g = recvCell d c) ∨ ∃ d, g = barCell d := by
  unfold O₀ OS2 OS3 at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (OT1_pos h)
      · exact .inr ⟨_, tally_pos h⟩
    · exact .inr ⟨_, tally_pos h⟩
  · exact .inr ⟨_, tally_pos h⟩

omit [FloatOps F] in
/-- A semaphore of level 0 may be waited on whatever the device still owes. -/
theorem mayWait_low (c : Dev nD) (q : DmaSem sig) (hq : ∀ j, q ≠ recvS j) (O : CellTallies nD τ sig Unit) (hO : O = O₀ c ∨ O = OT1 c ∨ O = 0) :
    (levAts L lv : sProp 𝕄) ⊢ MayWait (c : Thread nD τ) (.dma q) () O := by
  have hlow : ∀ u, lv ((c : Thread nD τ), .dma q) u ≤ 0 := fun u => by
    unfold lv; rw [if_neg (dma_ne_bar _), if_neg (fun ⟨j, h⟩ => hq j (SemLoc.dma.inj h))]
  rcases hO with rfl | rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact hlow _)
      (fun g u hg => by
        rcases O₀_pos hg with ⟨d, rfl⟩ | ⟨d, rfl⟩
        · rw [lv_recv]; decide
        · rw [lv_bar]; decide)
  · refine MayOwe.of_cut (L := L) (lev := lv) 0 (fun p hp => by rw [Finset.mem_singleton.mp hp, L_tc]; exact Finset.mem_singleton_self _)
      (fun g u hg => by obtain ⟨d, rfl⟩ := OT1_pos hg; exact Finset.mem_singleton_self _)
      (fun p hp => by rw [Finset.mem_singleton.mp hp]; exact hlow _)
      (fun g u hg => by obtain ⟨d, rfl⟩ := OT1_pos hg; rw [lv_recv]; decide)
  · rw [MayWait_zero]; iintro -; iempintro

omit [FloatOps F] in
/-- At its barrier's wait a device owes receive cells only. -/
theorem mayWait_bar (c : Dev nD) : (levAts L lv : sProp 𝕄) ⊢ MayWait (c : Thread nD τ) (.reg barS) () (OT1 c) :=
  MayOwe.of_cut (L := L) (lev := lv) 1 (fun p hp => by rw [Finset.mem_singleton.mp hp, L_tc]; exact Finset.mem_singleton_self _)
    (fun g u hg => by obtain ⟨d, rfl⟩ := OT1_pos hg; exact Finset.mem_singleton_self _)
    (fun p hp => by rw [Finset.mem_singleton.mp hp]; exact le_of_eq (lv_bar c _))
    (fun g u hg => by obtain ⟨d, rfl⟩ := OT1_pos hg; rw [lv_recv]; decide)

end Cert.LayerNorm
-- ==== Proof.Issue.lean ====
/-
# The sixteen copies on chip start

A device's body starts the copy of every window of its two inputs, in four stretches of its text; these state what each of
the first three stretches takes and gives. The fourth starts the last copy and raises two neighbours' barriers, and is
stated with the exchange.
-/
module

public import proofs.«01_k».proof.Proof.Cells

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Stretch 1 of the body: the copies of 4 windows start. -/
theorem issue1 (c : Dev nD) (X Y : XTy (F := F)) {Kt : _ → sProp 𝕄} :
    iprop((idleX 0 inb_S2048x2048_S256x2048_0_0 0 0 inb_S2x8_S1x1_0_0 c X ∗ idleY 0 inb_S2048x2048_S256x2048_0_0 1 0 inb_S2x8_S1x1_1_0 c Y ∗ idleX 256 inb_S2048x2048_S256x2048_256_0 0 1 inb_S2x8_S1x1_0_1 c X ∗ idleY 256 inb_S2048x2048_S256x2048_256_0 1 1 inb_S2x8_S1x1_1_1 c Y)
        ∗ (iprop(flyX 0 inb_S2048x2048_S256x2048_0_0 0 0 inb_S2x8_S1x1_0_0 c X ∗ flyY 0 inb_S2048x2048_S256x2048_0_0 1 0 inb_S2x8_S1x1_1_0 c Y ∗ flyX 256 inb_S2048x2048_S256x2048_256_0 0 1 inb_S2x8_S1x1_0_1 c X ∗ flyY 256 inb_S2048x2048_S256x2048_256_0 1 1 inb_S2x8_S1x1_1_1 c Y) -∗ Kt ⟨c, Scalar.remsi (Scalar.divsi (Dev.word c) 1#32) 4#32⟩))
      ⊢ wp frame (wpE (defs₀ (F := F)) 𝒱₀ (c : Thread nD τ) none) Set.univ
          (k0_part1 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  rw [k0_part1_eq_skeleton]; unfold k0_part1_skel
  simp only [semSignalWord, semWaitWord, Prog.lift, Prog.bind_op, Prog.bind_ret, Prog.pure_eq_ret, wp_deviceId]
  iintro ⟨⟨H00, H10, H01, H11⟩, Hk⟩
  iapply (issueX 0 inb_S2048x2048_S256x2048_0_0 0 0 inb_S2x8_S1x1_0_0 c X) $$ H00; iintro H00
  iapply (issueY 0 inb_S2048x2048_S256x2048_0_0 1 0 inb_S2x8_S1x1_1_0 c Y) $$ H10; iintro H10
  iapply (issueX 256 inb_S2048x2048_S256x2048_256_0 0 1 inb_S2x8_S1x1_0_1 c X) $$ H01; iintro H01
  iapply (issueY 256 inb_S2048x2048_S256x2048_256_0 1 1 inb_S2x8_S1x1_1_1 c Y) $$ H11; iintro H11
  rw [wp_ret]; imodintro
  iapply Hk
  isplitl [H00]; · iexact H00
  isplitl [H10]; · iexact H10
  isplitl [H01]; · iexact H01
  iexact H11

/-- Stretch 2 of the body: the copies of 6 windows start. -/
theorem issue2 (c : Dev nD) (X Y : XTy (F := F)) {Kt : _ → sProp 𝕄} :
    iprop((idleX 512 inb_S2048x2048_S256x2048_512_0 0 2 inb_S2x8_S1x1_0_2 c X ∗ idleY 512 inb_S2048x2048_S256x2048_512_0 1 2 inb_S2x8_S1x1_1_2 c Y ∗ idleX 768 inb_S2048x2048_S256x2048_768_0 0 3 inb_S2x8_S1x1_0_3 c X ∗ idleY 768 inb_S2048x2048_S256x2048_768_0 1 3 inb_S2x8_S1x1_1_3 c Y ∗ idleX 1024 inb_S2048x2048_S256x2048_1024_0 0 4 inb_S2x8_S1x1_0_4 c X ∗ idleY 1024 inb_S2048x2048_S256x2048_1024_0 1 4 inb_S2x8_S1x1_1_4 c Y)
        ∗ (iprop(flyX 512 inb_S2048x2048_S256x2048_512_0 0 2 inb_S2x8_S1x1_0_2 c X ∗ flyY 512 inb_S2048x2048_S256x2048_512_0 1 2 inb_S2x8_S1x1_1_2 c Y ∗ flyX 768 inb_S2048x2048_S256x2048_768_0 0 3 inb_S2x8_S1x1_0_3 c X ∗ flyY 768 inb_S2048x2048_S256x2048_768_0 1 3 inb_S2x8_S1x1_1_3 c Y ∗ flyX 1024 inb_S2048x2048_S256x2048_1024_0 0 4 inb_S2x8_S1x1_0_4 c X ∗ flyY 1024 inb_S2048x2048_S256x2048_1024_0 1 4 inb_S2x8_S1x1_1_4 c Y) -∗ Kt ⟨⟩))
      ⊢ wp frame (wpE (defs₀ (F := F)) 𝒱₀ (c : Thread nD τ) none) Set.univ
          (k0_part2 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  rw [k0_part2_eq_skeleton]; unfold k0_part2_skel
  simp only [semSignalWord, semWaitWord, Prog.lift, Prog.bind_op, Prog.bind_ret, Prog.pure_eq_ret, wp_deviceId]
  iintro ⟨⟨H02, H12, H03, H13, H04, H14⟩, Hk⟩
  iapply (issueX 512 inb_S2048x2048_S256x2048_512_0 0 2 inb_S2x8_S1x1_0_2 c X) $$ H02; iintro H02
  iapply (issueY 512 inb_S2048x2048_S256x2048_512_0 1 2 inb_S2x8_S1x1_1_2 c Y) $$ H12; iintro H12
  iapply (issueX 768 inb_S2048x2048_S256x2048_768_0 0 3 inb_S2x8_S1x1_0_3 c X) $$ H03; iintro H03
  iapply (issueY 768 inb_S2048x2048_S256x2048_768_0 1 3 inb_S2x8_S1x1_1_3 c Y) $$ H13; iintro H13
  iapply (issueX 1024 inb_S2048x2048_S256x2048_1024_0 0 4 inb_S2x8_S1x1_0_4 c X) $$ H04; iintro H04
  iapply (issueY 1024 inb_S2048x2048_S256x2048_1024_0 1 4 inb_S2x8_S1x1_1_4 c Y) $$ H14; iintro H14
  rw [wp_ret]; imodintro
  iapply Hk
  isplitl [H02]; · iexact H02
  isplitl [H12]; · iexact H12
  isplitl [H03]; · iexact H03
  isplitl [H13]; · iexact H13
  isplitl [H04]; · iexact H04
  iexact H14

/-- Stretch 3 of the body: the copies of 5 windows start. -/
theorem issue3 (c : Dev nD) (X Y : XTy (F := F)) {Kt : _ → sProp 𝕄} :
    iprop((idleX 1280 inb_S2048x2048_S256x2048_1280_0 0 5 inb_S2x8_S1x1_0_5 c X ∗ idleY 1280 inb_S2048x2048_S256x2048_1280_0 1 5 inb_S2x8_S1x1_1_5 c Y ∗ idleX 1536 inb_S2048x2048_S256x2048_1536_0 0 6 inb_S2x8_S1x1_0_6 c X ∗ idleY 1536 inb_S2048x2048_S256x2048_1536_0 1 6 inb_S2x8_S1x1_1_6 c Y ∗ idleX 1792 inb_S2048x2048_S256x2048_1792_0 0 7 inb_S2x8_S1x1_0_7 c X)
        ∗ (iprop(flyX 1280 inb_S2048x2048_S256x2048_1280_0 0 5 inb_S2x8_S1x1_0_5 c X ∗ flyY 1280 inb_S2048x2048_S256x2048_1280_0 1 5 inb_S2x8_S1x1_1_5 c Y ∗ flyX 1536 inb_S2048x2048_S256x2048_1536_0 0 6 inb_S2x8_S1x1_0_6 c X ∗ flyY 1536 inb_S2048x2048_S256x2048_1536_0 1 6 inb_S2x8_S1x1_1_6 c Y ∗ flyX 1792 inb_S2048x2048_S256x2048_1792_0 0 7 inb_S2x8_S1x1_0_7 c X) -∗ Kt ⟨⟩))
      ⊢ wp frame (wpE (defs₀ (F := F)) 𝒱₀ (c : Thread nD τ) none) Set.univ
          (k0_part3 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  rw [k0_part3_eq_skeleton]; unfold k0_part3_skel
  simp only [semSignalWord, semWaitWord, Prog.lift, Prog.bind_op, Prog.bind_ret, Prog.pure_eq_ret, wp_deviceId]
  iintro ⟨⟨H05, H15, H06, H16, H07⟩, Hk⟩
  iapply (issueX 1280 inb_S2048x2048_S256x2048_1280_0 0 5 inb_S2x8_S1x1_0_5 c X) $$ H05; iintro H05
  iapply (issueY 1280 inb_S2048x2048_S256x2048_1280_0 1 5 inb_S2x8_S1x1_1_5 c Y) $$ H15; iintro H15
  iapply (issueX 1536 inb_S2048x2048_S256x2048_1536_0 0 6 inb_S2x8_S1x1_0_6 c X) $$ H06; iintro H06
  iapply (issueY 1536 inb_S2048x2048_S256x2048_1536_0 1 6 inb_S2x8_S1x1_1_6 c Y) $$ H16; iintro H16
  iapply (issueX 1792 inb_S2048x2048_S256x2048_1792_0 0 7 inb_S2x8_S1x1_0_7 c X) $$ H07; iintro H07
  rw [wp_ret]; imodintro
  iapply Hk
  isplitl [H05]; · iexact H05
  isplitl [H15]; · iexact H15
  isplitl [H06]; · iexact H06
  isplitl [H16]; · iexact H16
  iexact H07

end Cert.LayerNorm
-- ==== Proof.Chunks.lean ====
/-
# The blocks of rows, one after the other

Once its three signals are sent and its barrier's wait is over, a device waits for the two copies of each block of rows,
loads the two windows and carries the running column sums on. These state each such stretch of the body's text: what it
waits for, and the sums it passes on.
-/
module

public import proofs.«01_k».proof.Proof.Cells

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Block 1: rows 256 to 511. -/
theorem chunk1 (c : Dev nD) (X Y : XTy (F := F)) {Kt : _ → sProp 𝕄} :
    iprop((flyX 256 inb_S2048x2048_S256x2048_256_0 0 1 inb_S2x8_S1x1_0_1 c X ∗ flyY 256 inb_S2048x2048_S256x2048_256_0 1 1 inb_S2x8_S1x1_1_1 c Y)
        ∗ owing c (OT1 c) ∗ levAts L lv
        ∗ (iprop(doneX 256 inb_S2048x2048_S256x2048_256_0 0 1 inb_S2x8_S1x1_0_1 c X ∗ doneY 256 inb_S2048x2048_S256x2048_256_0 1 1 inb_S2x8_S1x1_1_1 c Y ∗ owing c (OT1 c)) -∗ Kt ⟨(g1 X Y), (b1 Y), (blk1 Y), (k0_pay7 (blk1 X)), (k0_pay8 (blk1 X))⟩))
      ⊢ wp frame (wpE (defs₀ (F := F)) 𝒱₀ (c : Thread nD τ) none) Set.univ
          (k0_part6 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            (k0_pay1 (F := F)) (k0_pay2 (F := F)) (blk0 Y) (k0_pay3 (blk0 X)) (k0_pay4 (blk0 X))) Kt := by
  rw [k0_part6_eq_skeleton]; unfold k0_part6_skel
  simp only [semSignalWord, semWaitWord, Prog.lift, Prog.bind_op, Prog.bind_ret, Prog.pure_eq_ret, wp_deviceId]
  iintro ⟨⟨HX, HY⟩, HO, #Hlev, Hk⟩
  iapply (waitX 256 inb_S2048x2048_S256x2048_256_0 0 1 inb_S2x8_S1x1_0_1 c X (OT1 c)) $$ [HX HO]
  · isplitl [HX]; · iexact HX
    isplitl [HO]; · iexact HO
    iapply (mayWait_low c (inS 0 1 inb_S2x8_S1x1_0_1) (by decide) (OT1 c) (.inr (.inl rfl))); iexact Hlev
  iintro ⟨HX, HO⟩
  iapply (waitY 256 inb_S2048x2048_S256x2048_256_0 1 1 inb_S2x8_S1x1_1_1 c Y (OT1 c)) $$ [HY HO]
  · isplitl [HY]; · iexact HY
    isplitl [HO]; · iexact HO
    iapply (mayWait_low c (inS 1 1 inb_S2x8_S1x1_1_1) (by decide) (OT1 c) (.inr (.inl rfl))); iexact Hlev
  iintro ⟨HY, HO⟩
  iapply (loadX 256 inb_S2048x2048_S256x2048_256_0 0 1 inb_S2x8_S1x1_0_1 c X) $$ HX; iintro HX
  iapply (loadY 256 inb_S2048x2048_S256x2048_256_0 1 1 inb_S2x8_S1x1_1_1 c Y) $$ HY; iintro HY
  unfold g1 b1
  rw [wp_ret]; imodintro
  iapply Hk
  isplitl [HX]; · iexact HX
  isplitl [HY]; · iexact HY
  iexact HO

/-- Block 2: rows 512 to 767. -/
theorem chunk2 (c : Dev nD) (X Y : XTy (F := F)) {Kt : _ → sProp 𝕄} :
    iprop((flyX 512 inb_S2048x2048_S256x2048_512_0 0 2 inb_S2x8_S1x1_0_2 c X ∗ flyY 512 inb_S2048x2048_S256x2048_512_0 1 2 inb_S2x8_S1x1_1_2 c Y)
        ∗ owing c (OT1 c) ∗ levAts L lv
        ∗ (iprop(doneX 512 inb_S2048x2048_S256x2048_512_0 0 2 inb_S2x8_S1x1_0_2 c X ∗ doneY 512 inb_S2048x2048_S256x2048_512_0 1 2 inb_S2x8_S1x1_1_2 c Y ∗ owing c (OT1 c)) -∗ Kt ⟨(g2 X Y), (b2 Y), (blk2 Y), (k0_pay11 (blk2 X)), (k0_pay12 (blk2 X)), (k0_pay13 (F := F))⟩))
      ⊢ wp frame (wpE (defs₀ (F := F)) 𝒱₀ (c : Thread nD τ) none) Set.univ
          (k0_part7 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            (g1 X Y) (b1 Y) (blk1 Y) (k0_pay7 (blk1 X)) (k0_pay8 (blk1 X))) Kt := by
  rw [k0_part7_eq_skeleton]; unfold k0_part7_skel
  simp only [semSignalWord, semWaitWord, Prog.lift, Prog.bind_op, Prog.bind_ret, Prog.pure_eq_ret, wp_deviceId]
  iintro ⟨⟨HX, HY⟩, HO, #Hlev, Hk⟩
  iapply (waitX 512 inb_S2048x2048_S256x2048_512_0 0 2 inb_S2x8_S1x1_0_2 c X (OT1 c)) $$ [HX HO]
  · isplitl [HX]; · iexact HX
    isplitl [HO]; · iexact HO
    iapply (mayWait_low c (inS 0 2 inb_S2x8_S1x1_0_2) (by decide) (OT1 c) (.inr (.inl rfl))); iexact Hlev
  iintro ⟨HX, HO⟩
  iapply (waitY 512 inb_S2048x2048_S256x2048_512_0 1 2 inb_S2x8_S1x1_1_2 c Y (OT1 c)) $$ [HY HO]
  · isplitl [HY]; · iexact HY
    isplitl [HO]; · iexact HO
    iapply (mayWait_low c (inS 1 2 inb_S2x8_S1x1_1_2) (by decide) (OT1 c) (.inr (.inl rfl))); iexact Hlev
  iintro ⟨HY, HO⟩
  iapply (loadX 512 inb_S2048x2048_S256x2048_512_0 0 2 inb_S2x8_S1x1_0_2 c X) $$ HX; iintro HX
  iapply (loadY 512 inb_S2048x2048_S256x2048_512_0 1 2 inb_S2x8_S1x1_1_2 c Y) $$ HY; iintro HY
  unfold g2 b2
  rw [wp_ret]; imodintro
  iapply Hk
  isplitl [HX]; · iexact HX
  isplitl [HY]; · iexact HY
  iexact HO

/-- Block 3: rows 768 to 1023. -/
theorem chunk3 (c : Dev nD) (X Y : XTy (F := F)) {Kt : _ → sProp 𝕄} :
    iprop((flyX 768 inb_S2048x2048_S256x2048_768_0 0 3 inb_S2x8_S1x1_0_3 c X ∗ flyY 768 inb_S2048x2048_S256x2048_768_0 1 3 inb_S2x8_S1x1_1_3 c Y)
        ∗ owing c (OT1 c) ∗ levAts L lv
        ∗ (iprop(doneX 768 inb_S2048x2048_S256x2048_768_0 0 3 inb_S2x8_S1x1_0_3 c X ∗ doneY 768 inb_S2048x2048_S256x2048_768_0 1 3 inb_S2x8_S1x1_1_3 c Y ∗ owing c (OT1 c)) -∗ Kt ⟨(g3 X Y), (b3 Y), (blk3 Y), (k0_pay16 (blk3 X)), (k0_pay17 (blk3 X)), (Scalar.ofBits .f32 0x3727C5AC#32)⟩))
      ⊢ wp frame (wpE (defs₀ (F := F)) 𝒱₀ (c : Thread nD τ) none) Set.univ
          (k0_part8 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            (g2 X Y) (b2 Y) (blk2 Y) (k0_pay11 (blk2 X)) (k0_pay12 (blk2 X)) (k0_pay13 (F := F))) Kt := by
  rw [k0_part8_eq_skeleton]; unfold k0_part8_skel
  simp only [semSignalWord, semWaitWord, Prog.lift, Prog.bind_op, Prog.bind_ret, Prog.pure_eq_ret, wp_deviceId]
  iintro ⟨⟨HX, HY⟩, HO, #Hlev, Hk⟩
  iapply (waitX 768 inb_S2048x2048_S256x2048_768_0 0 3 inb_S2x8_S1x1_0_3 c X (OT1 c)) $$ [HX HO]
  · isplitl [HX]; · iexact HX
    isplitl [HO]; · iexact HO
    iapply (mayWait_low c (inS 0 3 inb_S2x8_S1x1_0_3) (by decide) (OT1 c) (.inr (.inl rfl))); iexact Hlev
  iintro ⟨HX, HO⟩
  iapply (waitY 768 inb_S2048x2048_S256x2048_768_0 1 3 inb_S2x8_S1x1_1_3 c Y (OT1 c)) $$ [HY HO]
  · isplitl [HY]; · iexact HY
    isplitl [HO]; · iexact HO
    iapply (mayWait_low c (inS 1 3 inb_S2x8_S1x1_1_3) (by decide) (OT1 c) (.inr (.inl rfl))); iexact Hlev
  iintro ⟨HY, HO⟩
  iapply (loadX 768 inb_S2048x2048_S256x2048_768_0 0 3 inb_S2x8_S1x1_0_3 c X) $$ HX; iintro HX
  iapply (loadY 768 inb_S2048x2048_S256x2048_768_0 1 3 inb_S2x8_S1x1_1_3 c Y) $$ HY; iintro HY
  unfold g3 b3
  rw [wp_ret]; imodintro
  iapply Hk
  isplitl [HX]; · iexact HX
  isplitl [HY]; · iexact HY
  iexact HO

/-- Block 4: rows 1024 to 1279. -/
theorem chunk4 (c : Dev nD) (X Y : XTy (F := F)) {Kt : _ → sProp 𝕄} :
    iprop((flyX 1024 inb_S2048x2048_S256x2048_1024_0 0 4 inb_S2x8_S1x1_0_4 c X ∗ flyY 1024 inb_S2048x2048_S256x2048_1024_0 1 4 inb_S2x8_S1x1_1_4 c Y)
        ∗ owing c (OT1 c) ∗ levAts L lv
        ∗ (iprop(doneX 1024 inb_S2048x2048_S256x2048_1024_0 0 4 inb_S2x8_S1x1_0_4 c X ∗ doneY 1024 inb_S2048x2048_S256x2048_1024_0 1 4 inb_S2x8_S1x1_1_4 c Y ∗ owing c (OT1 c)) -∗ Kt ⟨(g4 X Y), (b4 Y), (blk4 Y), (k0_pay20 (blk4 X)), (k0_pay21 (blk4 X))⟩))
      ⊢ wp frame (wpE (defs₀ (F := F)) 𝒱₀ (c : Thread nD τ) none) Set.univ
          (k0_part9 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            (g3 X Y) (b3 Y) (blk3 Y) (k0_pay16 (blk3 X)) (k0_pay17 (blk3 X)) (Scalar.ofBits .f32 0x3727C5AC#32)) Kt := by
  rw [k0_part9_eq_skeleton]; unfold k0_part9_skel
  simp only [semSignalWord, semWaitWord, Prog.lift, Prog.bind_op, Prog.bind_ret, Prog.pure_eq_ret, wp_deviceId]
  iintro ⟨⟨HX, HY⟩, HO, #Hlev, Hk⟩
  iapply (waitX 1024 inb_S2048x2048_S256x2048_1024_0 0 4 inb_S2x8_S1x1_0_4 c X (OT1 c)) $$ [HX HO]
  · isplitl [HX]; · iexact HX
    isplitl [HO]; · iexact HO
    iapply (mayWait_low c (inS 0 4 inb_S2x8_S1x1_0_4) (by decide) (OT1 c) (.inr (.inl rfl))); iexact Hlev
  iintro ⟨HX, HO⟩
  iapply (waitY 1024 inb_S2048x2048_S256x2048_1024_0 1 4 inb_S2x8_S1x1_1_4 c Y (OT1 c)) $$ [HY HO]
  · isplitl [HY]; · iexact HY
    isplitl [HO]; · iexact HO
    iapply (mayWait_low c (inS 1 4 inb_S2x8_S1x1_1_4) (by decide) (OT1 c) (.inr (.inl rfl))); iexact Hlev
  iintro ⟨HY, HO⟩
  iapply (loadX 1024 inb_S2048x2048_S256x2048_1024_0 0 4 inb_S2x8_S1x1_0_4 c X) $$ HX; iintro HX
  iapply (loadY 1024 inb_S2048x2048_S256x2048_1024_0 1 4 inb_S2x8_S1x1_1_4 c Y) $$ HY; iintro HY
  unfold g4 b4
  rw [wp_ret]; imodintro
  iapply Hk
  isplitl [HX]; · iexact HX
  isplitl [HY]; · iexact HY
  iexact HO

/-- Block 5: rows 1280 to 1535. -/
theorem chunk5 (c : Dev nD) (X Y : XTy (F := F)) {Kt : _ → sProp 𝕄} :
    iprop((flyX 1280 inb_S2048x2048_S256x2048_1280_0 0 5 inb_S2x8_S1x1_0_5 c X ∗ flyY 1280 inb_S2048x2048_S256x2048_1280_0 1 5 inb_S2x8_S1x1_1_5 c Y)
        ∗ owing c (OT1 c) ∗ levAts L lv
        ∗ (iprop(doneX 1280 inb_S2048x2048_S256x2048_1280_0 0 5 inb_S2x8_S1x1_0_5 c X ∗ doneY 1280 inb_S2048x2048_S256x2048_1280_0 1 5 inb_S2x8_S1x1_1_5 c Y ∗ owing c (OT1 c)) -∗ Kt ⟨(g5 X Y), (b5 Y), (blk5 Y), (k0_pay24 (blk5 X)), (k0_pay25 (blk5 X))⟩))
      ⊢ wp frame (wpE (defs₀ (F := F)) 𝒱₀ (c : Thread nD τ) none) Set.univ
          (k0_part10 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            (g4 X Y) (b4 Y) (blk4 Y) (k0_pay20 (blk4 X)) (k0_pay21 (blk4 X))) Kt := by
  rw [k0_part10_eq_skeleton]; unfold k0_part10_skel
  simp only [semSignalWord, semWaitWord, Prog.lift, Prog.bind_op, Prog.bind_ret, Prog.pure_eq_ret, wp_deviceId]
  iintro ⟨⟨HX, HY⟩, HO, #Hlev, Hk⟩
  iapply (waitX 1280 inb_S2048x2048_S256x2048_1280_0 0 5 inb_S2x8_S1x1_0_5 c X (OT1 c)) $$ [HX HO]
  · isplitl [HX]; · iexact HX
    isplitl [HO]; · iexact HO
    iapply (mayWait_low c (inS 0 5 inb_S2x8_S1x1_0_5) (by decide) (OT1 c) (.inr (.inl rfl))); iexact Hlev
  iintro ⟨HX, HO⟩
  iapply (waitY 1280 inb_S2048x2048_S256x2048_1280_0 1 5 inb_S2x8_S1x1_1_5 c Y (OT1 c)) $$ [HY HO]
  · isplitl [HY]; · iexact HY
    isplitl [HO]; · iexact HO
    iapply (mayWait_low c (inS 1 5 inb_S2x8_S1x1_1_5) (by decide) (OT1 c) (.inr (.inl rfl))); iexact Hlev
  iintro ⟨HY, HO⟩
  iapply (loadX 1280 inb_S2048x2048_S256x2048_1280_0 0 5 inb_S2x8_S1x1_0_5 c X) $$ HX; iintro HX
  iapply (loadY 1280 inb_S2048x2048_S256x2048_1280_0 1 5 inb_S2x8_S1x1_1_5 c Y) $$ HY; iintro HY
  unfold g5 b5
  rw [wp_ret]; imodintro
  iapply Hk
  isplitl [HX]; · iexact HX
  isplitl [HY]; · iexact HY
  iexact HO

/-- Block 6: rows 1536 to 1791. -/
theorem chunk6 (c : Dev nD) (X Y : XTy (F := F)) {Kt : _ → sProp 𝕄} :
    iprop((flyX 1536 inb_S2048x2048_S256x2048_1536_0 0 6 inb_S2x8_S1x1_0_6 c X ∗ flyY 1536 inb_S2048x2048_S256x2048_1536_0 1 6 inb_S2x8_S1x1_1_6 c Y)
        ∗ owing c (OT1 c) ∗ levAts L lv
        ∗ (iprop(doneX 1536 inb_S2048x2048_S256x2048_1536_0 0 6 inb_S2x8_S1x1_0_6 c X ∗ doneY 1536 inb_S2048x2048_S256x2048_1536_0 1 6 inb_S2x8_S1x1_1_6 c Y ∗ owing c (OT1 c)) -∗ Kt ⟨(g6 X Y), (b6 Y), (blk6 Y), (k0_pay28 (blk6 X) (blk6 Y))⟩))
      ⊢ wp frame (wpE (defs₀ (F := F)) 𝒱₀ (c : Thread nD τ) none) Set.univ
          (k0_part11 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            (g5 X Y) (b5 Y) (blk5 Y) (k0_pay24 (blk5 X)) (k0_pay25 (blk5 X))) Kt := by
  rw [k0_part11_eq_skeleton]; unfold k0_part11_skel
  simp only [semSignalWord, semWaitWord, Prog.lift, Prog.bind_op, Prog.bind_ret, Prog.pure_eq_ret, wp_deviceId]
  iintro ⟨⟨HX, HY⟩, HO, #Hlev, Hk⟩
  iapply (waitX 1536 inb_S2048x2048_S256x2048_1536_0 0 6 inb_S2x8_S1x1_0_6 c X (OT1 c)) $$ [HX HO]
  · isplitl [HX]; · iexact HX
    isplitl [HO]; · iexact HO
    iapply (mayWait_low c (inS 0 6 inb_S2x8_S1x1_0_6) (by decide) (OT1 c) (.inr (.inl rfl))); iexact Hlev
  iintro ⟨HX, HO⟩
  iapply (waitY 1536 inb_S2048x2048_S256x2048_1536_0 1 6 inb_S2x8_S1x1_1_6 c Y (OT1 c)) $$ [HY HO]
  · isplitl [HY]; · iexact HY
    isplitl [HO]; · iexact HO
    iapply (mayWait_low c (inS 1 6 inb_S2x8_S1x1_1_6) (by decide) (OT1 c) (.inr (.inl rfl))); iexact Hlev
  iintro ⟨HY, HO⟩
  iapply (loadX 1536 inb_S2048x2048_S256x2048_1536_0 0 6 inb_S2x8_S1x1_0_6 c X) $$ HX; iintro HX
  iapply (loadY 1536 inb_S2048x2048_S256x2048_1536_0 1 6 inb_S2x8_S1x1_1_6 c Y) $$ HY; iintro HY
  unfold g6 b6
  rw [wp_ret]; imodintro
  iapply Hk
  isplitl [HX]; · iexact HX
  isplitl [HY]; · iexact HY
  iexact HO

/-- Block 7: rows 1792 to 2047. -/
theorem chunk7 (c : Dev nD) (X Y : XTy (F := F)) {Kt : _ → sProp 𝕄} :
    iprop((flyX 1792 inb_S2048x2048_S256x2048_1792_0 0 7 inb_S2x8_S1x1_0_7 c X ∗ flyY 1792 inb_S2048x2048_S256x2048_1792_0 1 7 inb_S2x8_S1x1_1_7 c Y)
        ∗ owing c (OT1 c) ∗ levAts L lv
        ∗ (iprop(doneX 1792 inb_S2048x2048_S256x2048_1792_0 0 7 inb_S2x8_S1x1_0_7 c X ∗ doneY 1792 inb_S2048x2048_S256x2048_1792_0 1 7 inb_S2x8_S1x1_1_7 c Y ∗ owing c (OT1 c)) -∗ Kt ⟨g7 X Y, b7 Y, blk7 Y, lastG X Y⟩))
      ⊢ wp frame (wpE (defs₀ (F := F)) 𝒱₀ (c : Thread nD τ) none) Set.univ
          (k0_part12 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            (g6 X Y) (b6 Y) (blk6 Y) (k0_pay28 (blk6 X) (blk6 Y))) Kt := by
  rw [k0_part12_eq_skeleton]; unfold k0_part12_skel
  simp only [semSignalWord, semWaitWord, Prog.lift, Prog.bind_op, Prog.bind_ret, Prog.pure_eq_ret, wp_deviceId]
  iintro ⟨⟨HX, HY⟩, HO, #Hlev, Hk⟩
  iapply (waitX 1792 inb_S2048x2048_S256x2048_1792_0 0 7 inb_S2x8_S1x1_0_7 c X (OT1 c)) $$ [HX HO]
  · isplitl [HX]; · iexact HX
    isplitl [HO]; · iexact HO
    iapply (mayWait_low c (inS 0 7 inb_S2x8_S1x1_0_7) (by decide) (OT1 c) (.inr (.inl rfl))); iexact Hlev
  iintro ⟨HX, HO⟩
  iapply (waitY 1792 inb_S2048x2048_S256x2048_1792_0 1 7 inb_S2x8_S1x1_1_7 c Y (OT1 c)) $$ [HY HO]
  · isplitl [HY]; · iexact HY
    isplitl [HO]; · iexact HO
    iapply (mayWait_low c (inS 1 7 inb_S2x8_S1x1_1_7) (by decide) (OT1 c) (.inr (.inl rfl))); iexact Hlev
  iintro ⟨HY, HO⟩
  iapply (loadX 1792 inb_S2048x2048_S256x2048_1792_0 0 7 inb_S2x8_S1x1_0_7 c X) $$ HX; iintro HX
  iapply (loadY 1792 inb_S2048x2048_S256x2048_1792_0 1 7 inb_S2x8_S1x1_1_7 c Y) $$ HY; iintro HY
  unfold g7 b7 lastG
  rw [wp_ret]; imodintro
  iapply Hk
  isplitl [HX]; · iexact HX
  isplitl [HY]; · iexact HY
  iexact HO

end Cert.LayerNorm
-- ==== Proof.Exchange.lean ====
/-
# The exchange, step by step

What each signal, the barrier's wait, each transfer, each wait on a transfer, and each load and store of the exchange
buffer takes and gives, on a device holding the record of every cell's invariant.
-/
module

public import proofs.«01_k».proof.Proof.Cells

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

/-- Every cell's invariant, under the names the launch made them at, and that every cell is at its start. -/
def records : sProp 𝕄 :=
  iprop(bigSep Finset.univ (fun ck => cellInv ER (Rd m) (K ck) (kcell ck)) ∗ bigSep Finset.univ (fun ck => reached ER (kcell ck) 0))

instance records_persistent : BI.Persistent (records (F := F) m K) := by unfold records; infer_instance

theorem inv_at {g : GSem nD τ sig} (ck : Dev nD × Fin 8) (h : kcell ck = g) : records m K ⊢ cellInv ER (Rd m) (K ck) g := by
  subst h
  have hb : (bigSep Finset.univ fun ck : Dev nD × Fin 8 => (cellInv ER (Rd (F := F) m) (K ck) (kcell ck) : sProp 𝕄)) ⊢ cellInv ER (Rd m) (K ck) (kcell ck) :=
    bigSep_elim (Finset.mem_univ ck)
  unfold records
  iintro ⟨H, -⟩
  iapply hb; iexact H
theorem start_at {g : GSem nD τ sig} (ck : Dev nD × Fin 8) (h : kcell ck = g) : records m K ⊢ reached ER g 0 := by
  subst h
  have hb : (bigSep Finset.univ fun ck : Dev nD × Fin 8 => (reached ER (kcell ck) 0 : sProp 𝕄)) ⊢ reached ER (kcell ck) 0 :=
    bigSep_elim (Finset.mem_univ ck)
  unfold records
  iintro ⟨-, H⟩
  iapply hb; iexact H

/-- A signal to a neighbour's barrier hands it the slot it may write to. -/
theorem signalTo (c d n : Dev nD) (hn : n = d) (hd : d ≠ c) (O : CellTallies nD τ sig Unit)
    {α : Type} {Q : α → sProp 𝕄} {p : PUnit → Prog (TpuEff nD τ sig (Elt F) Λ₀ .tc) α} :
    iprop(records m K ∗ owing c (O + tallyAt (barCell d) () 1) ∗ dutyTok ER (barCell d) 0 c ∗ (∃ f, slotPts fullShare c d f))
      ⊢ iprop((owing c O -∗ wp frame (wpE (defs₀ (F := F)) 𝒱₀ (c : Thread nD τ) none) Set.univ (p ⟨⟩) Q)
          -∗ wp frame (wpE (defs₀ (F := F)) 𝒱₀ (c : Thread nD τ) none) Set.univ (.op (.semSignal ((n, .tc) : Thread nD τ) barS (1#32).toInt) p) Q) := by
  subst hn
  unfold owing
  iintro ⟨#HR, ⟨%W, HO⟩, Ht, Hs⟩ Hk
  iapply (Rounds.wp_signal 𝒱₀ ER (Rd m) (c : Thread nD τ) none (dst := (n : Thread nD τ)) (κ := K (n, 0)) (d := c)
      (by rw [duties_tc]; exact Finset.mem_filter.mpr ⟨Finset.mem_univ _, .inl ⟨rfl, hd.symm⟩⟩) ((amount_bar m n c).trans (by decide)) () O rfl) $$ [HO Ht Hs]
  · isplitr; · iapply (inv_at m K (n, 0) rfl); iexact HR
    isplitl [HO]; · iexact HO
    isplitl [Ht]; · iexact Ht
    isplitl [Hs]
    · rw [payload_bar]; unfold barPay
      isplitl [Hs]; · iexact Hs
      iapply (start_at m K (c, rk n) (kcell_rk c n)); iexact HR
    iapply (start_at m K (n, 0) rfl); iexact HR
  iintro HO
  iapply Hk
  iexists W; iexact HO

/-- The wait on its own barrier gives a device its slot of each of the other three. -/
theorem waitBar (c : Dev nD) {α : Type} {Q : α → sProp 𝕄} {p : PUnit → Prog (TpuEff nD τ sig (Elt F) Λ₀ .tc) α} :
    iprop(records m K ∗ levAts L lv ∗ cred (tallyAt (barCell c) () 3) ∗ owing c (OT1 c) ∗ atPos ER (barCell c) 0 ∅ 0)
      ⊢ iprop((iprop(owing c (OT1 c) ∗ atPos ER (barCell c) 1 ∅ 0
              ∗ (∃ f, slotPts fullShare (pl 1 c) c f) ∗ (∃ f, slotPts fullShare (pl 2 c) c f) ∗ (∃ f, slotPts fullShare (pl 3 c) c f))
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS (3#32).toInt) p) Q) := by
  unfold owing
  iintro ⟨#HR, #Hlev, Hc, ⟨%W, HO⟩, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := OT1 c) (W := W) (R := 0) (m := 0) (T := ∅)
      (by rw [expect_bar]; decide)) $$ [Hc HO Hat]
  · isplitr; · iapply (inv_at m K (c, 0) rfl); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨H1, -⟩, ⟨H2, -⟩, ⟨H3, -⟩⟩
  iapply Hk
  isplitl [HO]; · iexists _; iexact HO
  isplitl [Hat]; · iexact Hat
  isplitl [H1]; · iexact H1
  isplitl [H2] <;> iassumption

omit [FloatOps F] in
/-- A slot read and written at the same slot: there, what was read. -/
theorem landSlot (j : Dev nD) (f fd : S4x2x2048.Idx → Elt F .f32) : ∀ i ∈ (slotM j).view.set,
    (slotM j).view.write (Elt F) fd ((slotM j).view.read (Elt F) f) Finset.univ i = f i := by
  intro i hi
  obtain ⟨x, -, rfl⟩ := Finset.mem_map.mp hi
  exact (View.write_emb_of_mem (v := (slotM j).view) (Val := Elt F) fd _ (Finset.mem_univ x)).trans rfl

/-- A transfer of the device's own slot to another device, paying that device's receive cell and its own send cell. -/
theorem sendTo (c d n : Dev nD) (hn : n = d) (hd : d ≠ c) (s : DmaSem sig) (hs : s = send0 ∨ s = send1 ∨ s = send2)
    (i : Fin 8) (hi : kcell (c, i) = sendCell c s) (O : CellTallies nD τ sig Unit)
    {hsc : (slotM c : Memref sig (Dev.tc n : Thread nD τ).2.kind .vmem S2x2048 .f32).view.ref.isScScratch = false}
    {hsrc : (slotM c).view.WordExact} {hdst : (slotM c).view.WordExact}
    {hsem : DmaTarget.Typed .vmem (.dma (recvS c)) (.remote (Dev.tc n : Thread nD τ) (slotM c) (.dma s) hsc)}
    {α : Type} {Q : α → sProp 𝕄} {p : PUnit → Prog (TpuEff nD τ sig (Elt F) Λ₀ .tc) α} :
    iprop(records m K ∗ slotPts (shareOf (.dma s)) c c (commV m) ∗ (∃ f, slotPts fullShare d c f)
        ∗ owing c (O + tallyAt (recvCell d c) () N) ∗ dutyTok ER (sendCell c s) 0 0 ∗ dutyTok ER (recvCell d c) 0 c)
      ⊢ iprop((iprop(cred (tallyAt (sendCell c s) () N) ∗ owing c O) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma (slotM c) (.remote (Dev.tc n : Thread nD τ) (slotM c) (.dma s) hsc) (.dma (recvS c)) hsrc hdst hsem) p) Q) := by
  subst hn
  have core : ∀ (f : S4x2x2048.Idx → Elt F .f32) (W : Waits sig Unit),
      iprop(cellInv ER (Rd m) (K (c, i)) (sendCell c s) ∗ cellInv ER (Rd m) (K (n, rk c)) (recvCell n c)
          ∗ slotPts (shareOf (.dma s)) c c (commV m) ∗ slotPts fullShare n c f ∗ owes (c : Thread nD τ) (O + tallyAt (recvCell n c) () N) W
          ∗ dutyTok ER (sendCell c s) 0 0 ∗ reached ER (sendCell c s) 0 ∗ dutyTok ER (recvCell n c) 0 c ∗ reached ER (recvCell n c) 0)
        ⊢ iprop((iprop(cred (tallyAt (sendCell c s) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma (slotM c) (.remote (Dev.tc n : Thread nD τ) (slotM c) (.dma s) hsc) (.dma (recvS c)) hsrc hdst hsem) p) Q) := by
    intro f W
    unfold slotPts
    have hd₁ : (0 : Dev nD) ∈ (Rd (F := F) m).duties (sendCell c s) 0 := by
      rw [duties_tc]; exact Finset.mem_filter.mpr ⟨Finset.mem_univ _, .inr (.inr ⟨rfl, by rcases hs with rfl | rfl | rfl <;> simp⟩)⟩
    have hd₂ : c ∈ (Rd (F := F) m).duties (recvCell n c) 0 := by
      rw [duties_tc]; exact Finset.mem_filter.mpr ⟨Finset.mem_univ _, .inr (.inl ⟨rfl, hd.symm⟩)⟩
    have hN : (slotM c).view.amount (.dma (recvS c)) = N := N_slot c
    have ha₁ := amount_dma m c s 0
    have ha₂ : (Rd (F := F) m).amount (recvCell n c) 0 c = N := amount_dma m n (recvS c) c
    have hp₁ : ((slotM c).view.loc (c : Thread nD τ) ↦[(slotM c).view.set]{shareOf (.dma s)} commV m) ⊢ (Rd (F := F) m).payload (sendCell c s) 0 0 := by
      rw [payload_send m c hs]; exact BI.Entails.refl _
    have hp₂ : ((slotM c).view.loc (n : Thread nD τ) ↦[(slotM c).view.set]{fullShare} ((slotM c).view.write (Elt F) f ((slotM c).view.read (Elt F) (commV m)) Finset.univ))
        ⊢ (Rd (F := F) m).payload (recvCell n c) 0 c := by
      rw [payload_recv]; exact Entails.of_eq (pointsTo_congr (landSlot c (commV m) f))
    have hO : O + tallyAt (recvCell n c) () N = O + tallyAt ((n : Thread nD τ), .dma (recvS c)) () N := rfl
    exact Rounds.wp_send_pointsTo 𝒱₀ ER (Rd m) (c : Thread nD τ) none (κ₁ := K (c, i)) (κ₂ := K (n, rk c))
      (r₁ := 0) (r₂ := 0) (d₁ := 0) (d₂ := c) (fd := f) hd₁ hd₂ () () N hN ha₁ ha₂ (O₀ := O + tallyAt (recvCell n c) () N) O hO (W := W) hp₁ hp₂
  unfold owing
  iintro ⟨#HR, Hs, ⟨%f, Hd⟩, ⟨%W, HO⟩, Ht, Hr⟩ Hk
  iapply (core f W) $$ [Hs Hd HO Ht Hr]
  · isplitr; · iapply (inv_at m K (c, i) hi); iexact HR
    isplitr; · iapply (inv_at m K (n, rk c) (kcell_rk n c)); iexact HR
    isplitl [Hs]; · iexact Hs
    isplitl [Hd]; · iexact Hd
    isplitl [HO]; · iexact HO
    isplitl [Ht]; · iexact Ht
    isplitr; · iapply (start_at m K (c, i) hi); iexact HR
    isplitl [Hr]; · iexact Hr
    iapply (start_at m K (n, rk c) (kcell_rk n c)); iexact HR
  iintro ⟨Hc, HO⟩
  iapply Hk
  isplitl [Hc]; · iexact Hc
  iexists W; iexact HO

/-- The wait for another device's transfer gives the slot, holding that device's rows. -/
theorem waitRecv (c j : Dev nD) (hj : j ≠ c) (o5 : Fin 1 → ℕ) (h5 : ∀ a, o5 a + S1.size a ≤ S4.size a) (e5 : o5 = k0_off3 j)
    (o6 : Fin 3 → ℕ) (h6 : ∀ a, o6 a + S1x2x2048.size a ≤ S4x2x2048.size a) (e6 : o6 = k0_off4 j)
    {hsrc hdst : (((Memref.whole cc0_scratch2 : Memref sig .tc .vmem S4x2x2048 .f32).slice (Rect.unit (s := S4x2x2048) o6 S1x2x2048.size h6) (fun _ => rfl)).squeeze
      S2x2048 squeezes_S1x2x2048_S2x2048).view.WordExact}
    {α : Type} {Q : α → sProp 𝕄} {p : PUnit → Prog (TpuEff nD τ sig (Elt F) Λ₀ .tc) α} :
    iprop(records m K ∗ cred (tallyAt (recvCell c j) () N) ∗ owing c 0 ∗ atPos ER (recvCell c j) 0 ∅ 0)
      ⊢ iprop((iprop(owing c 0 ∗ atPos ER (recvCell c j) 1 ∅ 0 ∗ slotPts fullShare c j (commV m)) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 ((cc0_scratch5.slice (Rect.unit (s := S4) o5 S1.size h5)).squeeze S_ squeezes_S1_S_).sem
              (((Memref.whole cc0_scratch2 : Memref sig .tc .vmem S4x2x2048 .f32).slice (Rect.unit (s := S4x2x2048) o6 S1x2x2048.size h6) (fun _ => rfl)).squeeze
                S2x2048 squeezes_S1x2x2048_S2x2048)
              (((Memref.whole cc0_scratch2 : Memref sig .tc .vmem S4x2x2048 .f32).slice (Rect.unit (s := S4x2x2048) o6 S1x2x2048.size h6) (fun _ => rfl)).squeeze
                S2x2048 squeezes_S1x2x2048_S2x2048) hsrc hdst) p) Q) := by
  subst e5 e6
  unfold owing
  iintro ⟨#HR, Hc, ⟨%W, HO⟩, Hat⟩ Hk
  iapply (Rounds.wp_wait_rest_token 𝒱₀ ER (Rd m) (c : Thread nD τ) none (κ := K (c, rk j))
      (wpE_waitDma2_eq 𝒱₀ (c : Thread nD τ) none Set.univ) (Set.mem_univ _) () (O := 0) (W := W) (R := 0) (m := 0) (T := ∅)
      (by rw [Nat.zero_add]; exact (expect_one m c (duties_recv m c hj)).symm)) $$ [Hc HO Hat]
  · isplitr; · iapply (inv_at m K (c, rk j) (kcell_rk c j)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c hj)) $$ Hpay
  iapply Hk
  isplitl [HO]; · iexists _; iexact HO
  isplitl [Hat] <;> iassumption

/-- The wait for its own transfer gives back the share of the slot that the transfer read. -/
theorem waitSend (c : Dev nD) (s : DmaSem sig) (hs : s = send0 ∨ s = send1 ∨ s = send2) (i : Fin 8) (hi : kcell (c, i) = sendCell c s)
    {hsrc hdst : (slotM c).view.WordExact}
    {α : Type} {Q : α → sProp 𝕄} {p : PUnit → Prog (TpuEff nD τ sig (Elt F) Λ₀ .tc) α} :
    iprop(records m K ∗ cred (tallyAt (sendCell c s) () N) ∗ owing c 0 ∗ atPos ER (sendCell c s) 0 ∅ 0)
      ⊢ iprop((iprop(owing c 0 ∗ atPos ER (sendCell c s) 1 ∅ 0 ∗ slotPts (shareOf (.dma s)) c c (commV m)) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s (slotM c) (slotM c) hsrc hdst) p) Q) := by
  unfold owing
  iintro ⟨#HR, Hc, ⟨%W, HO⟩, Hat⟩ Hk
  iapply (Rounds.wp_wait_rest_token 𝒱₀ ER (Rd m) (c : Thread nD τ) none (κ := K (c, i))
      (wpE_waitDma2_eq 𝒱₀ (c : Thread nD τ) none Set.univ) (Set.mem_univ _) () (O := 0) (W := W) (R := 0) (m := 0) (T := ∅)
      (by rw [Nat.zero_add]; exact (expect_one m c (d := 0) (by
            rcases hs with rfl | rfl | rfl
            · exact duties_send0 m c
            · exact duties_send1 m c
            · exact duties_send2 m c)).symm)) $$ [Hc HO Hat]
  · isplitr; · iapply (inv_at m K (c, i) hi); iexact HR
    isplitl [Hc]; · iexact Hc
    isplitl [HO]; · iexact HO
    isplitr; · rw [MayWait_zero]; iempintro
    iexact Hat
  iintro ⟨HO, Hat, -, Hpay⟩
  ihave Hp := (Entails.of_eq (rest_send m c hs)) $$ Hpay
  iapply Hk
  isplitl [HO]; · iexists _; iexact HO
  isplitl [Hat] <;> iassumption

/-- Loading a slot that has arrived. -/
theorem loadSlot (c j : Dev nD) (o7 : Fin 3 → ℕ) (h7 : ∀ a, o7 a + S1x2x2048.size a ≤ S4x2x2048.size a) (e7 : o7 = k0_off4 j)
    {hl : (Memref.whole cc0_scratch2 : Memref sig .tc .vmem S4x2x2048 .f32).view.LoadsAt (Rect.unit (s := S4x2x2048) o7 S1x2x2048.size h7).toLoadRect}
    {α : Type} {Q : α → sProp 𝕄} {p : (S1x2x2048.Idx → Elt F .f32) → Prog (TpuEff nD τ sig (Elt F) Λ₀ .tc) α} :
    slotPts fullShare c j (commV m)
      ⊢ iprop((slotPts fullShare c j (commV m) -∗ wp frame (wpE (defs₀ (F := F)) 𝒱₀ (c : Thread nD τ) none) Set.univ (p (slotV m j)) Q)
          -∗ wp frame (wpE (defs₀ (F := F)) 𝒱₀ (c : Thread nD τ) none) Set.univ (.op (.load (Memref.whole cc0_scratch2) (Rect.unit (s := S4x2x2048) o7 S1x2x2048.size h7).toLoadRect hl) p) Q) := by
  subst e7
  have hv : ((Memref.whole cc0_scratch2 : Memref sig .tc .vmem S4x2x2048 .f32).access (Rect.unit (s := S4x2x2048) (k0_off4 j) S1x2x2048.size h7)).read (Elt F) (commV m) = slotV m j := by
    funext x
    show commV m ((Rect.unit (s := S4x2x2048) (k0_off4 j) S1x2x2048.size h7).emb x) = _
    unfold commV slotV
    have he : ∀ a, (((Rect.unit (s := S4x2x2048) (k0_off4 j) S1x2x2048.size h7).emb x a : Fin _) : ℕ) = k0_off4 j a + (x a : ℕ) := fun a => by
      rw [Rect.emb_apply]; show k0_off4 j a + 1 * (x a : ℕ) = _; rw [Nat.one_mul]
    have q0 : k0_off4 j 0 = j.val := congrFun (k0_off4_eq j) 0
    have q1 : k0_off4 j 1 = 0 := congrFun (k0_off4_eq j) 1
    have q2 : k0_off4 j 2 = 0 := congrFun (k0_off4_eq j) 2
    have hx : (x 0).val < 1 := (x 0).isLt
    have e0 : ((Rect.unit (s := S4x2x2048) (k0_off4 j) S1x2x2048.size h7).emb x) 0 = j := Fin.ext ((he 0).trans (by
      rw [show (x 0).val = 0 from Nat.lt_one_iff.mp hx]; exact q0))
    have e1 : ((Rect.unit (s := S4x2x2048) (k0_off4 j) S1x2x2048.size h7).emb x) 1 = x 1 := Fin.ext ((he 1).trans ((congrArg (· + (x 1).val) q1).trans (Nat.zero_add _)))
    have e2 : ((Rect.unit (s := S4x2x2048) (k0_off4 j) S1x2x2048.size h7).emb x) 2 = x 2 := Fin.ext ((he 2).trans ((congrArg (· + (x 2).val) q2).trans (Nat.zero_add _)))
    rw [e0, e1, e2]
  unfold slotPts
  iintro Hs Hk
  iapply (wp_load_rect 𝒱₀ (c : Thread nD τ) none Set.univ (m := Memref.whole cc0_scratch2) (r := Rect.unit (s := S4x2x2048) (k0_off4 j) S1x2x2048.size h7)
    (S := (slotM j).view.set) (by
      intro i hi
      rw [show (slotM j).view.set = (Rect.unit (s := S4x2x2048) (k0_off4 j) S1x2x2048.size (k0_off4_inb j)).set from
        (View.set_reshape _ _).trans (View.set_slice_whole _ _)]
      exact (View.set_slice_whole cc0_scratch2 (Rect.unit (s := S4x2x2048) (k0_off4 j) S1x2x2048.size h7)) ▸ hi)) $$ Hs
  iintro Hs
  rw [hv]
  iapply Hk
  iexact Hs

end Cert.LayerNorm
-- ==== Proof.Stores.lean ====
/-
# The two rows of sums are stored

A device stores its two rows of sums in the buffer its result leaves from and in its own slot of the exchange buffer.
After that the one holds the rows, and the slot what the exchange buffer holds of it once every slot has arrived.
-/
module

public import proofs.«01_k».proof.Proof.Exchange
public import Idealize.ShloMosaic.Lib.ValueLayout

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open ValueIdx

variable {F : FTy → Type} [FloatOps F]

local notation "𝕄" => MT nD τ sig Unit (Elt F) ℕ UU ℕ

variable (m : (ℓ : Loc nD τ sig) → Buf (Elt F) ℓ)

/-- What the buffer device `c`'s result leaves from holds. -/
def stgPts (c : Dev nD) (f : S2x2048.Idx → Elt F .f32) : sProp 𝕄 := (((c : Thread nD τ).loc cc0_stg0_0) ↦{fullShare} f)

/-- The two rows of the result's buffer, and the two of a slot, as they are stored. -/
abbrev row0 : Rect S2x2048 := Rect.unit (s := S2x2048) ![0, 0] S1x2048.size inb_S2x2048_S1x2048_0_0
abbrev row1 : Rect S2x2048 := Rect.unit (s := S2x2048) ![1, 0] S1x2048.size inb_S2x2048_S1x2048_1_0
abbrev slot0 (c : Dev nD) : Rect S4x2x2048 := Rect.unit (s := S4x2x2048) (k0_off1 c) S1x1x2048.size (k0_off1_inb c)
abbrev slot1 (c : Dev nD) : Rect S4x2x2048 := Rect.unit (s := S4x2x2048) (k0_off2 c) S1x1x2048.size (k0_off2_inb c)
abbrev whole2 : Rect S2x2048 := Rect.unit (s := S2x2048) ![0, 0] S2x2048.size inb_S2x2048_S2x2048_0_0

omit [FloatOps F] in
theorem row0_emb (i : S2x2048.Idx) (h : (i 0).val = 0) : row0.emb (ix2 0 (i 1)) = i :=
  funext fun a => Fin.ext (by rw [Rect.emb_apply]; fin_cases a; · exact h.symm
                              · show 0 + 1 * (i 1).val = (i 1).val; rw [Nat.one_mul, Nat.zero_add])
omit [FloatOps F] in
theorem row1_emb (i : S2x2048.Idx) (h : (i 0).val = 1) : row1.emb (ix2 0 (i 1)) = i :=
  funext fun a => Fin.ext (by rw [Rect.emb_apply]; fin_cases a; · exact h.symm
                              · show 0 + 1 * (i 1).val = (i 1).val; rw [Nat.one_mul, Nat.zero_add])
omit [FloatOps F] in
theorem row1_not (i : S2x2048.Idx) (h : (i 0).val = 0) : i ∉ row1.set := by
  rw [Rect.mem_set_unit]; intro hi
  have := (hi 0).1; simp at this; omega

omit [FloatOps F] in
theorem slot0_emb (c : Dev nD) (i : S4x2x2048.Idx) (hc : i 0 = c) (h : (i 1).val = 0) : (slot0 c).emb (ix3 0 0 (i 2)) = i :=
  funext fun a => Fin.ext (by
    rw [Rect.emb_apply]; fin_cases a
    · exact (congrArg (· + 1 * 0) (congrFun (k0_off1_eq c) 0)).trans (congrArg Fin.val hc.symm)
    · exact (congrArg (· + 1 * 0) (congrFun (k0_off1_eq c) 1)).trans h.symm
    · refine (congrArg (· + 1 * (i 2).val) (congrFun (k0_off1_eq c) 2)).trans ?_
      show 0 + 1 * (i 2).val = (i 2).val; rw [Nat.one_mul, Nat.zero_add])
omit [FloatOps F] in
theorem slot1_emb (c : Dev nD) (i : S4x2x2048.Idx) (hc : i 0 = c) (h : (i 1).val = 1) : (slot1 c).emb (ix3 0 0 (i 2)) = i :=
  funext fun a => Fin.ext (by
    rw [Rect.emb_apply]; fin_cases a
    · exact (congrArg (· + 1 * 0) (congrFun (k0_off2_eq c) 0)).trans (congrArg Fin.val hc.symm)
    · exact (congrArg (· + 1 * 0) (congrFun (k0_off2_eq c) 1)).trans h.symm
    · refine (congrArg (· + 1 * (i 2).val) (congrFun (k0_off2_eq c) 2)).trans ?_
      show 0 + 1 * (i 2).val = (i 2).val; rw [Nat.one_mul, Nat.zero_add])
omit [FloatOps F] in
theorem slot1_not (c : Dev nD) (i : S4x2x2048.Idx) (h : (i 1).val = 0) : i ∉ (slot1 c).set := by
  rw [Rect.mem_set_unit]; intro hi
  have := (hi 1).1
  rw [congrFun (k0_off2_eq c) 1] at this
  have h1 : 1 ≤ (i 1).val := this
  omega
omit [FloatOps F] in
theorem slot0_sub (c : Dev nD) : (slot0 c).set ⊆ (slotM c).view.set := by
  intro i hi
  rw [mem_slot]
  rw [Rect.mem_set_unit] at hi
  have h0 := hi 0
  rw [congrFun (k0_off1_eq c) 0] at h0
  have h1 : c.val ≤ (i 0).val ∧ (i 0).val < c.val + 1 := h0
  exact Fin.ext (by omega)
omit [FloatOps F] in
theorem slot1_sub (c : Dev nD) : (slot1 c).set ⊆ (slotM c).view.set := by
  intro i hi
  rw [mem_slot]
  rw [Rect.mem_set_unit] at hi
  have h0 := hi 0
  rw [congrFun (k0_off2_eq c) 0] at h0
  have h1 : c.val ≤ (i 0).val ∧ (i 0).val < c.val + 1 := h0
  exact Fin.ext (by omega)

omit [FloatOps F] in
theorem slot0_access (c : Dev nD) : ((Memref.whole cc0_scratch2 : Memref sig .tc .vmem S4x2x2048 .f32).access (slot0 c)).set ⊆ (slotM c).view.set := by
  intro i hi
  exact slot0_sub c ((View.set_slice_whole cc0_scratch2 (slot0 c)) ▸ hi)

omit [FloatOps F] in
theorem slot1_access (c : Dev nD) : ((Memref.whole cc0_scratch2 : Memref sig .tc .vmem S4x2x2048 .f32).access (slot1 c)).set ⊆ (slotM c).view.set := by
  intro i hi
  exact slot1_sub c ((View.set_slice_whole cc0_scratch2 (slot1 c)) ▸ hi)

/-- Both rows stored: the result's buffer holds the two rows of sums. -/
theorem stored (X Y : XTy (F := F)) (f : S2x2048.Idx → Elt F .f32) :
    ((Memref.whole cc0_stg0_0 : Memref sig .tc .vmem S2x2048 .f32).access row1).write (Elt F)
      (((Memref.whole cc0_stg0_0 : Memref sig .tc .vmem S2x2048 .f32).access row0).write (Elt F) f (sumG X Y) Finset.univ) (sumB Y) Finset.univ
      = partV X Y := by
  funext i
  unfold partV
  have hlt : (i 0).val < 2 := (i 0).isLt
  by_cases h : (i 0).val = 0
  · rw [if_pos h]
    refine (View.write_of_not_mem _ _ _ ?_).trans ?_
    · intro hi; exact row1_not i h ((View.set_slice_whole cc0_stg0_0 row1) ▸ hi)
    · conv_lhs => rw [← row0_emb i h]
      exact View.write_emb_of_mem (v := (Memref.whole cc0_stg0_0 : Memref sig .tc .vmem S2x2048 .f32).access row0) (Val := Elt F) f _ (Finset.mem_univ _)
  · rw [if_neg h]
    conv_lhs => rw [← row1_emb i (by omega)]
    exact View.write_emb_of_mem (v := (Memref.whole cc0_stg0_0 : Memref sig .tc .vmem S2x2048 .f32).access row1) (Val := Elt F) _ _ (Finset.mem_univ _)

/-- A row of sums reshaped to be stored in a slot, read at an element. -/
theorem pay34_at (v : FVec F S1x2048 .f32) (w : FVec F S2048 .f32) (j : Fin 2048) : k0_pay34 v w (ix3 0 0 j) = k0_pay32 v w (ix2 0 j) := by
  unfold k0_pay34; exact shapeCast_ab_1ab_apply _ _ 0 0 j
theorem pay35_at (v : FVec F S1x2048 .f32) (w : Vec F S256x2048 .f32) (j : Fin 2048) : k0_pay35 v w (ix3 0 0 j) = k0_pay33 v w (ix2 0 j) := by
  unfold k0_pay35; exact shapeCast_ab_1ab_apply _ _ 0 0 j

/-- Both rows stored in a device's own slot: there, what the exchange buffer holds once all slots have arrived. -/
theorem storedSlot (c : Dev nD) (f : S4x2x2048.Idx → Elt F .f32) : ∀ i ∈ (slotM c).view.set,
    ((Memref.whole cc0_scratch2 : Memref sig .tc .vmem S4x2x2048 .f32).access (slot1 c)).write (Elt F)
      (((Memref.whole cc0_scratch2 : Memref sig .tc .vmem S4x2x2048 .f32).access (slot0 c)).write (Elt F) f
        (k0_pay34 (g7 (Xd m c) (Yd m c)) (lastG (Xd m c) (Yd m c))) Finset.univ) (k0_pay35 (b7 (Yd m c)) (blk7 (Yd m c))) Finset.univ i
      = commV m i := by
  intro i hi
  have hc : i 0 = c := (mem_slot c i).mp hi
  unfold commV part
  have hlt : (i 1).val < 2 := (i 1).isLt
  by_cases h : (i 1).val = 0
  · refine (View.write_of_not_mem _ _ _ ?_).trans ?_
    · intro hi; exact slot1_not c i h ((View.set_slice_whole cc0_scratch2 (slot1 c)) ▸ hi)
    · conv_lhs => rw [← slot0_emb c i hc h]
      refine (View.write_emb_of_mem (v := (Memref.whole cc0_scratch2 : Memref sig .tc .vmem S4x2x2048 .f32).access (slot0 c)) (Val := Elt F) f _ (Finset.mem_univ _)).trans ?_
      rw [hc]
      refine (pay34_at _ _ (i 2)).trans ?_
      exact (if_pos h).symm
  · conv_lhs => rw [← slot1_emb c i hc (by omega)]
    refine (View.write_emb_of_mem (v := (Memref.whole cc0_scratch2 : Memref sig .tc .vmem S4x2x2048 .f32).access (slot1 c)) (Val := Elt F) _ _ (Finset.mem_univ _)).trans ?_
    rw [hc]
    refine (pay35_at _ _ (i 2)).trans ?_
    exact (if_neg h).symm

/-- The stretch of the body that stores the rows. -/
theorem stores (c : Dev nD) (v2 : BitVec 32) {Kt : _ → sProp 𝕄} :
    iprop((∃ f, stgPts c f) ∗ (∃ f, slotPts fullShare c c f)
        ∗ (iprop(stgPts c (part m c) ∗ slotPts fullShare c c (commV m)) -∗ Kt ⟨⟩))
      ⊢ wp frame (wpE (defs₀ (F := F)) 𝒱₀ (c : Thread nD τ) none) Set.univ (k0_part13 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            c v2 (g7 (Xd m c) (Yd m c)) (b7 (Yd m c)) (blk7 (Yd m c)) (lastG (Xd m c) (Yd m c))) Kt := by
  rw [k0_part13_eq_skeleton]; unfold k0_part13_skel
  simp only [semSignalWord, semWaitWord, Prog.lift, Prog.bind_op, Prog.bind_ret, Prog.pure_eq_ret, wp_deviceId]
  iintro ⟨⟨%f, Hs⟩, ⟨%g, Hc⟩, Hk⟩
  unfold stgPts slotPts
  iapply (wp_load 𝒱₀ (c : Thread nD τ) none Set.univ (m := Memref.whole cc0_stg0_0) (Finset.subset_univ _)) $$ Hs; iintro Hs
  iapply (wp_store 𝒱₀ (c : Thread nD τ) none Set.univ (m := Memref.whole cc0_stg0_0) (r := row0) (Mk := Finset.univ) (Finset.subset_univ _)) $$ Hs; iintro Hs
  iapply (wp_load 𝒱₀ (c : Thread nD τ) none Set.univ (m := Memref.whole cc0_stg0_0) (Finset.subset_univ _)) $$ Hs; iintro Hs
  iapply (wp_store 𝒱₀ (c : Thread nD τ) none Set.univ (m := Memref.whole cc0_stg0_0) (r := row1) (Mk := Finset.univ) (Finset.subset_univ _)) $$ Hs; iintro Hs
  iapply (wp_load_rect 𝒱₀ (c : Thread nD τ) none Set.univ (m := Memref.whole cc0_scratch2) (r := slot0 c) (S := (slotM c).view.set) (slot0_access c)) $$ Hc; iintro Hc
  iapply (wp_store 𝒱₀ (c : Thread nD τ) none Set.univ (m := Memref.whole cc0_scratch2) (r := slot0 c) (Mk := Finset.univ) (S := (slotM c).view.set) (slot0_access c)) $$ Hc; iintro Hc
  iapply (wp_load_rect 𝒱₀ (c : Thread nD τ) none Set.univ (m := Memref.whole cc0_scratch2) (r := slot1 c) (S := (slotM c).view.set) (slot1_access c)) $$ Hc; iintro Hc
  iapply (wp_store 𝒱₀ (c : Thread nD τ) none Set.univ (m := Memref.whole cc0_scratch2) (r := slot1 c) (Mk := Finset.univ) (S := (slotM c).view.set) (slot1_access c)) $$ Hc; iintro Hc
  have h1 := stored (Xd m c) (Yd m c) f
  unfold sumG sumB at h1
  rw [h1, wp_ret]; imodintro
  ihave Hc' := (Entails.of_eq (pointsTo_congr (storedSlot m c g))) $$ Hc
  iapply Hk
  isplitl [Hs]; · unfold part; iexact Hs
  iexact Hc'

end Cert.LayerNorm
-- ==== Proof.Steps.lean ====
/-
# The stretches of the exchange

The stretches of the body's text that raise the three barriers, wait on the device's own, start the three transfers and
take in the three other devices' rows one after the other, each with what it takes and gives.
-/
module

public import proofs.«01_k».proof.Proof.Issue
public import proofs.«01_k».proof.Proof.Chunks
public import proofs.«01_k».proof.Proof.Stores

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

/-- The barrier semaphore's whole array, as the body names it. -/
abbrev barArr : Sems sig S_ := SemArray.scalar (sig.barrier 0 rfl)

theorem OT3_eq (c : Dev nD) : OT3 c = 0 + tallyAt (recvCell (pl 3 c) c) () N := by unfold OT3; rw [zero_add]

/-- The semaphore and the slot of the device one, two or three places on, as the body computes them. -/
theorem off5_1 (c : Dev nD) : k0_off5 c 1#32 = k0_off3 (pl 1 c) := by revert c; decide
theorem off5_2 (c : Dev nD) : k0_off5 c 2#32 = k0_off3 (pl 2 c) := by revert c; decide
theorem off5_3 (c : Dev nD) : k0_off5 c 3#32 = k0_off3 (pl 3 c) := by revert c; decide
theorem off6_1 (c : Dev nD) : k0_off6 c 1#32 = k0_off4 (pl 1 c) := by revert c; decide
theorem off6_2 (c : Dev nD) : k0_off6 c 2#32 = k0_off4 (pl 2 c) := by revert c; decide
theorem off6_3 (c : Dev nD) : k0_off6 c 3#32 = k0_off4 (pl 3 c) := by revert c; decide
theorem off7_1 (c : Dev nD) : k0_off7 c 1#32 = k0_off4 (pl 1 c) := by revert c; decide
theorem off7_2 (c : Dev nD) : k0_off7 c 2#32 = k0_off4 (pl 2 c) := by revert c; decide
theorem off7_3 (c : Dev nD) : k0_off7 c 3#32 = k0_off4 (pl 3 c) := by revert c; decide

omit [FloatOps F] in
theorem hz2 : (![0, 0] : Fin 2 → ℕ) = fun _ => 0 := funext fun a => by fin_cases a <;> rfl
omit [FloatOps F] in
theorem read_stg (f : S2x2048.Idx → Elt F .f32) : (Memref.whole cc0_stg0_0 : Memref sig .tc .vmem S2x2048 .f32).view.readAt (Elt F) whole2.toLoadRect f = f :=
  Memref.readAt_unit_zero (Elt F) cc0_stg0_0 hz2 _ f
omit [FloatOps F] in
theorem write_stg (f w : S2x2048.Idx → Elt F .f32) :
    ((Memref.whole cc0_stg0_0 : Memref sig .tc .vmem S2x2048 .f32).access whole2).write (Elt F) f w Finset.univ = w :=
  Memref.write_access_unit_zero_univ (Elt F) cc0_stg0_0 hz2 _ f w

/-- Loading the whole of the result's buffer, and storing it. -/
theorem loadStg (c : Dev nD) (f : S2x2048.Idx → Elt F .f32)
    {hl : (Memref.whole cc0_stg0_0 : Memref sig .tc .vmem S2x2048 .f32).view.LoadsAt whole2.toLoadRect}
    {α : Type} {Q : α → sProp 𝕄} {p : (S2x2048.Idx → Elt F .f32) → Prog (TpuEff nD τ sig (Elt F) Λ₀ .tc) α} :
    stgPts c f ⊢ iprop((stgPts c f -∗ wp frame (wpE (defs₀ (F := F)) 𝒱₀ (c : Thread nD τ) none) Set.univ (p f) Q) -∗ wp frame (wpE (defs₀ (F := F)) 𝒱₀ (c : Thread nD τ) none) Set.univ (.op (.load (Memref.whole cc0_stg0_0) whole2.toLoadRect hl) p) Q) := by
  unfold stgPts
  iintro Hs Hk
  iapply (wp_load 𝒱₀ (c : Thread nD τ) none Set.univ (m := Memref.whole cc0_stg0_0) (Finset.subset_univ _)) $$ Hs; iintro Hs
  rw [read_stg]
  iapply Hk; iexact Hs
theorem storeStg (c : Dev nD) (f w : S2x2048.Idx → Elt F .f32)
    {hx : ((Memref.whole cc0_stg0_0 : Memref sig .tc .vmem S2x2048 .f32).access whole2).Stores Finset.univ}
    {hm : (Finset.univ : Finset whole2.shape.Idx) = Finset.univ ∨ ∀ a, whole2.stride a = 1}
    {α : Type} {Q : α → sProp 𝕄} {p : PUnit → Prog (TpuEff nD τ sig (Elt F) Λ₀ .tc) α} :
    stgPts c f ⊢ iprop((stgPts c w -∗ wp frame (wpE (defs₀ (F := F)) 𝒱₀ (c : Thread nD τ) none) Set.univ (p ⟨⟩) Q) -∗ wp frame (wpE (defs₀ (F := F)) 𝒱₀ (c : Thread nD τ) none) Set.univ (.op (.store (Memref.whole cc0_stg0_0) whole2 w Finset.univ hx hm) p) Q) := by
  unfold stgPts
  iintro Hs Hk
  iapply (wp_store 𝒱₀ (c : Thread nD τ) none Set.univ (m := Memref.whole cc0_stg0_0) (r := whole2) (Mk := Finset.univ) (Finset.subset_univ _)) $$ Hs; iintro Hs
  rw [write_stg]
  iapply Hk; iexact Hs

/-- The last copy starts and the first two barriers are raised. -/
theorem signals (c : Dev nD) (v2 : BitVec 32) (Y : XTy (F := F)) {Kt : _ → sProp 𝕄} :
    iprop(records m K ∗ idleY 1792 inb_S2048x2048_S256x2048_1792_0 1 7 inb_S2x8_S1x1_1_7 c Y ∗ owing c (O₀ c) ∗ dutyTok ER (barCell (pl 1 c)) 0 c ∗ dutyTok ER (barCell (pl 2 c)) 0 c
        ∗ (∃ f, slotPts fullShare c (pl 1 c) f) ∗ (∃ f, slotPts fullShare c (pl 2 c) f)
        ∗ (∀ a b d, iprop(flyY 1792 inb_S2048x2048_S256x2048_1792_0 1 7 inb_S2x8_S1x1_1_7 c Y ∗ owing c (OS3 c)) -∗ Kt ⟨barArr, a, b, d⟩))
      ⊢ wp frame (wpE (defs₀ (F := F)) 𝒱₀ (c : Thread nD τ) none) Set.univ (k0_part4 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            c v2) Kt := by
  rw [k0_part4_eq_skeleton]; unfold k0_part4_skel
  simp only [semSignalWord, semWaitWord, Prog.lift, Prog.bind_op, Prog.bind_ret, Prog.pure_eq_ret, wp_deviceId]
  iintro ⟨#HR, H17, HO, Ht1, Ht2, Hs1, Hs2, Hk⟩
  iapply (issueY 1792 inb_S2048x2048_S256x2048_1792_0 1 7 inb_S2x8_S1x1_1_7 c Y) $$ H17; iintro H17
  unfold O₀
  iapply (signalTo m K c (pl 1 c) _ (dev1_eq c) (pl1_ne c) (OS2 c)) $$ [HO Ht1 Hs1]
  · isplitr; · iexact HR
    isplitl [HO]; · iexact HO
    isplitl [Ht1] <;> iassumption
  iintro HO
  unfold OS2
  iapply (signalTo m K c (pl 2 c) _ (dev2_eq c) (pl2_ne c) (OS3 c)) $$ [HO Ht2 Hs2]
  · isplitr; · iexact HR
    isplitl [HO]; · iexact HO
    isplitl [Ht2] <;> iassumption
  iintro HO
  rw [wp_ret]; imodintro
  iapply Hk
  isplitl [H17]; · iexact H17
  iexact HO

/-- The third barrier is raised, the device's own waited on, and the first block's copies waited for. -/
theorem barrier (c : Dev nD) (a b d : BitVec 32) (X Y : XTy (F := F)) {Kt : _ → sProp 𝕄} :
    iprop(records m K ∗ levAts L lv ∗ owing c (OS3 c) ∗ dutyTok ER (barCell (pl 3 c)) 0 c ∗ (∃ f, slotPts fullShare c (pl 3 c) f)
        ∗ cred (tallyAt (barCell c) () 3) ∗ atPos ER (barCell c) 0 ∅ 0 ∗ (flyX 0 inb_S2048x2048_S256x2048_0_0 0 0 inb_S2x8_S1x1_0_0 c X ∗ flyY 0 inb_S2048x2048_S256x2048_0_0 1 0 inb_S2x8_S1x1_1_0 c Y)
        ∗ (iprop(owing c (OT1 c) ∗ atPos ER (barCell c) 1 ∅ 0
              ∗ (∃ f, slotPts fullShare (pl 1 c) c f) ∗ (∃ f, slotPts fullShare (pl 2 c) c f) ∗ (∃ f, slotPts fullShare (pl 3 c) c f)
              ∗ doneX 0 inb_S2048x2048_S256x2048_0_0 0 0 inb_S2x8_S1x1_0_0 c X ∗ doneY 0 inb_S2048x2048_S256x2048_0_0 1 0 inb_S2x8_S1x1_1_0 c Y)
            -∗ Kt ⟨k0_pay1 (F := F), k0_pay2 (F := F), blk0 Y, k0_pay3 (blk0 X), k0_pay4 (blk0 X)⟩))
      ⊢ wp frame (wpE (defs₀ (F := F)) 𝒱₀ (c : Thread nD τ) none) Set.univ (k0_part5 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            c barArr a b d) Kt := by
  rw [k0_part5_eq_skeleton]; unfold k0_part5_skel
  simp only [semSignalWord, semWaitWord, Prog.lift, Prog.bind_op, Prog.bind_ret, Prog.pure_eq_ret, wp_deviceId]
  iintro ⟨#HR, #Hlev, HO, Ht, Hs, Hc, Hat, ⟨HX, HY⟩, Hk⟩
  unfold OS3
  iapply (signalTo m K c (pl 3 c) _ (dev3_eq c) (pl3_ne c) (OT1 c)) $$ [HO Ht Hs]
  · isplitr; · iexact HR
    isplitl [HO]; · iexact HO
    isplitl [Ht] <;> iassumption
  iintro HO
  iapply (waitBar m K c) $$ [HO Hc Hat]
  · isplitr; · iexact HR
    isplitr; · iexact Hlev
    isplitl [Hc]; · iexact Hc
    isplitl [HO] <;> iassumption
  iintro ⟨HO, Hat, H1, H2, H3⟩
  iapply (waitX 0 inb_S2048x2048_S256x2048_0_0 0 0 inb_S2x8_S1x1_0_0 c X (OT1 c)) $$ [HX HO]
  · isplitl [HX]; · iexact HX
    isplitl [HO]; · iexact HO
    iapply (mayWait_low c (inS 0 0 inb_S2x8_S1x1_0_0) (by decide) (OT1 c) (.inr (.inl rfl))); iexact Hlev
  iintro ⟨HX, HO⟩
  iapply (waitY 0 inb_S2048x2048_S256x2048_0_0 1 0 inb_S2x8_S1x1_1_0 c Y (OT1 c)) $$ [HY HO]
  · isplitl [HY]; · iexact HY
    isplitl [HO]; · iexact HO
    iapply (mayWait_low c (inS 1 0 inb_S2x8_S1x1_1_0) (by decide) (OT1 c) (.inr (.inl rfl))); iexact Hlev
  iintro ⟨HY, HO⟩
  iapply (loadX 0 inb_S2048x2048_S256x2048_0_0 0 0 inb_S2x8_S1x1_0_0 c X) $$ HX; iintro HX
  iapply (loadY 0 inb_S2048x2048_S256x2048_0_0 1 0 inb_S2x8_S1x1_1_0 c Y) $$ HY; iintro HY
  rw [wp_ret]; imodintro
  iapply Hk
  isplitl [HO]; · iexact HO
  isplitl [Hat]; · iexact Hat
  isplitl [H1]; · iexact H1
  isplitl [H2]; · iexact H2
  isplitl [H3]; · iexact H3
  isplitl [HX]; · iexact HX
  iexact HY

/-- The transfers to the devices two places and one place on start. -/
theorem sends (c : Dev nD) (v2 : BitVec 32) {Kt : _ → sProp 𝕄} :
    iprop(records m K ∗ owing c (OT1 c)
        ∗ (slotPts (shareOf (.dma send1)) c c (commV m) ∗ (∃ f, slotPts fullShare (pl 2 c) c f) ∗ dutyTok ER (sendCell c send1) 0 0 ∗ dutyTok ER (recvCell (pl 2 c) c) 0 c)
        ∗ (slotPts (shareOf (.dma send0)) c c (commV m) ∗ (∃ f, slotPts fullShare (pl 1 c) c f) ∗ dutyTok ER (sendCell c send0) 0 0 ∗ dutyTok ER (recvCell (pl 1 c) c) 0 c)
        ∗ (∀ a b, iprop(cred (tallyAt (sendCell c send1) () N) ∗ cred (tallyAt (sendCell c send0) () N) ∗ owing c (OT3 c)) -∗ Kt ⟨a, b⟩))
      ⊢ wp frame (wpE (defs₀ (F := F)) 𝒱₀ (c : Thread nD τ) none) Set.univ (k0_part14 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            c v2) Kt := by
  rw [k0_part14_eq_skeleton]; unfold k0_part14_skel
  simp only [semSignalWord, semWaitWord, Prog.lift, Prog.bind_op, Prog.bind_ret, Prog.pure_eq_ret, wp_deviceId]
  iintro ⟨#HR, HO, ⟨Hs1, Hd1, Ht1, Hr1⟩, ⟨Hs0, Hd0, Ht0, Hr0⟩, Hk⟩
  unfold OT1
  iapply (sendTo m K c (pl 2 c) _ (dev4_eq c) (pl2_ne c) send1 (.inr (.inl rfl)) 2 rfl (OT2 c)) $$ [Hs1 Hd1 HO Ht1 Hr1]
  · isplitr; · iexact HR
    isplitl [Hs1]; · iexact Hs1
    isplitl [Hd1]; · iexact Hd1
    isplitl [HO]; · iexact HO
    isplitl [Ht1] <;> iassumption
  iintro ⟨Hc1, HO⟩
  unfold OT2
  iapply (sendTo m K c (pl 1 c) _ (dev5_eq c) (pl1_ne c) send0 (.inl rfl) 1 rfl (OT3 c)) $$ [Hs0 Hd0 HO Ht0 Hr0]
  · isplitr; · iexact HR
    isplitl [Hs0]; · iexact Hs0
    isplitl [Hd0]; · iexact Hd0
    isplitl [HO]; · iexact HO
    isplitl [Ht0] <;> iassumption
  iintro ⟨Hc0, HO⟩
  rw [wp_ret]; imodintro
  iapply Hk
  isplitl [Hc1]; · iexact Hc1
  isplitl [Hc0]; · iexact Hc0
  iexact HO

/-- The transfer to the device three places on starts, and the rows of the device one place on are taken in. -/
theorem take1 (c : Dev nD) (v2 a b : BitVec 32) {Kt : _ → sProp 𝕄} :
    iprop(records m K ∗ owing c (OT3 c)
        ∗ (slotPts (shareOf (.dma send2)) c c (commV m) ∗ (∃ f, slotPts fullShare (pl 3 c) c f) ∗ dutyTok ER (sendCell c send2) 0 0 ∗ dutyTok ER (recvCell (pl 3 c) c) 0 c)
        ∗ cred (tallyAt (recvCell c (pl 1 c)) () N) ∗ atPos ER (recvCell c (pl 1 c)) 0 ∅ 0 ∗ stgPts c (part m c)
        ∗ (iprop(cred (tallyAt (sendCell c send2) () N) ∗ owing c 0 ∗ atPos ER (recvCell c (pl 1 c)) 1 ∅ 0 ∗ slotPts fullShare c (pl 1 c) (commV m) ∗ stgPts c (part m c))
            -∗ Kt (out1 m c)))
      ⊢ wp frame (wpE (defs₀ (F := F)) 𝒱₀ (c : Thread nD τ) none) Set.univ (k0_part15 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            c v2 a b) Kt := by
  rw [k0_part15_eq_skeleton]; unfold k0_part15_skel
  simp only [semSignalWord, semWaitWord, Prog.lift, Prog.bind_op, Prog.bind_ret, Prog.pure_eq_ret, wp_deviceId]
  iintro ⟨#HR, HO, ⟨Hs2, Hd2, Ht2, Hr2⟩, Hc, Hat, Hstg, Hk⟩
  rw [OT3_eq]
  iapply (sendTo m K c (pl 3 c) _ (dev6_eq c) (pl3_ne c) send2 (.inr (.inr rfl)) 3 rfl 0) $$ [Hs2 Hd2 HO Ht2 Hr2]
  · isplitr; · iexact HR
    isplitl [Hs2]; · iexact Hs2
    isplitl [Hd2]; · iexact Hd2
    isplitl [HO]; · iexact HO
    isplitl [Ht2] <;> iassumption
  iintro ⟨Hc2, HO⟩
  iapply (waitRecv m K c (pl 1 c) (pl1_ne c) _ _ (off5_1 c) _ _ (off6_1 c)) $$ [Hc HO Hat]
  · isplitr; · iexact HR
    isplitl [Hc]; · iexact Hc
    isplitl [HO] <;> iassumption
  iintro ⟨HO, Hat, Hv⟩
  iapply (loadStg c (part m c)) $$ Hstg; iintro Hstg
  iapply (loadSlot m c (pl 1 c) _ _ (off7_1 c)) $$ Hv; iintro Hv
  rw [wp_ret]; imodintro
  unfold out1
  iapply Hk
  isplitl [Hc2]; · iexact Hc2
  isplitl [HO]; · iexact HO
  isplitl [Hat]; · iexact Hat
  isplitl [Hv]; · iexact Hv
  iexact Hstg

/-- The sum so far is stored and the rows of the device three places on are taken in. -/
theorem take3 (c : Dev nD) (v2 : BitVec 32) {Kt : _ → sProp 𝕄} :
    iprop(records m K ∗ owing c 0 ∗ cred (tallyAt (recvCell c (pl 3 c)) () N) ∗ atPos ER (recvCell c (pl 3 c)) 0 ∅ 0 ∗ stgPts c (part m c)
        ∗ (∀ a b, iprop(owing c 0 ∗ atPos ER (recvCell c (pl 3 c)) 1 ∅ 0 ∗ slotPts fullShare c (pl 3 c) (commV m) ∗ stgPts c (out2 m c))
            -∗ Kt ⟨a, b⟩))
      ⊢ wp frame (wpE (defs₀ (F := F)) 𝒱₀ (c : Thread nD τ) none) Set.univ (k0_part16 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            c v2 (out1 m c)) Kt := by
  rw [k0_part16_eq_skeleton]; unfold k0_part16_skel
  simp only [semSignalWord, semWaitWord, Prog.lift, Prog.bind_op, Prog.bind_ret, Prog.pure_eq_ret, wp_deviceId]
  iintro ⟨#HR, HO, Hc, Hat, Hstg, Hk⟩
  iapply (loadStg c (part m c)) $$ Hstg; iintro Hstg
  iapply (storeStg c (part m c) (out1 m c)) $$ Hstg; iintro Hstg
  iapply (waitRecv m K c (pl 3 c) (pl3_ne c) _ _ (off5_3 c) _ _ (off6_3 c)) $$ [Hc HO Hat]
  · isplitr; · iexact HR
    isplitl [Hc]; · iexact Hc
    isplitl [HO] <;> iassumption
  iintro ⟨HO, Hat, Hv⟩
  iapply (loadStg c (out1 m c)) $$ Hstg; iintro Hstg
  iapply (loadSlot m c (pl 3 c) _ _ (off7_3 c)) $$ Hv; iintro Hv
  iapply (loadStg c (out1 m c)) $$ Hstg; iintro Hstg
  iapply (storeStg c (out1 m c) (k0_pay37 (out1 m c) (slotV m (pl 3 c)))) $$ Hstg; iintro Hstg
  rw [wp_ret]; imodintro
  unfold out2
  iapply Hk
  isplitl [HO]; · iexact HO
  isplitl [Hat]; · iexact Hat
  isplitl [Hv]; · iexact Hv
  iexact Hstg

/-- The rows of the device two places on are taken in, and the first started transfer is waited for. -/
theorem take2 (c : Dev nD) (v2 a b : BitVec 32) {Kt : _ → sProp 𝕄} :
    iprop(records m K ∗ owing c 0 ∗ cred (tallyAt (recvCell c (pl 2 c)) () N) ∗ atPos ER (recvCell c (pl 2 c)) 0 ∅ 0 ∗ stgPts c (out2 m c)
        ∗ cred (tallyAt (sendCell c send1) () N) ∗ atPos ER (sendCell c send1) 0 ∅ 0
        ∗ (iprop(owing c 0 ∗ atPos ER (recvCell c (pl 2 c)) 1 ∅ 0 ∗ slotPts fullShare c (pl 2 c) (commV m) ∗ stgPts c (outV m c)
              ∗ atPos ER (sendCell c send1) 1 ∅ 0 ∗ slotPts (shareOf (.dma send1)) c c (commV m))
            -∗ Kt ⟨⟩))
      ⊢ wp frame (wpE (defs₀ (F := F)) 𝒱₀ (c : Thread nD τ) none) Set.univ (k0_part17 (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5
            c v2 a b) Kt := by
  rw [k0_part17_eq_skeleton]; unfold k0_part17_skel
  simp only [semSignalWord, semWaitWord, Prog.lift, Prog.bind_op, Prog.bind_ret, Prog.pure_eq_ret, wp_deviceId]
  iintro ⟨#HR, HO, Hc, Hat, Hstg, Hc1, Ha1, Hk⟩
  iapply (waitRecv m K c (pl 2 c) (pl2_ne c) _ _ (off5_2 c) _ _ (off6_2 c)) $$ [Hc HO Hat]
  · isplitr; · iexact HR
    isplitl [Hc]; · iexact Hc
    isplitl [HO] <;> iassumption
  iintro ⟨HO, Hat, Hv⟩
  iapply (loadStg c (out2 m c)) $$ Hstg; iintro Hstg
  iapply (loadSlot m c (pl 2 c) _ _ (off7_2 c)) $$ Hv; iintro Hv
  iapply (loadStg c (out2 m c)) $$ Hstg; iintro Hstg
  iapply (storeStg c (out2 m c) (k0_pay38 (out2 m c) (slotV m (pl 2 c)))) $$ Hstg; iintro Hstg
  iapply (waitSend m K c send1 (.inr (.inl rfl)) 2 rfl) $$ [Hc1 HO Ha1]
  · isplitr; · iexact HR
    isplitl [Hc1]; · iexact Hc1
    isplitl [HO] <;> iassumption
  iintro ⟨HO, Ha1, Hs1⟩
  rw [wp_ret]; imodintro
  unfold outV
  iapply Hk
  isplitl [HO]; · iexact HO
  isplitl [Hat]; · iexact Hat
  isplitl [Hv]; · iexact Hv
  isplitl [Hstg]; · iexact Hstg
  isplitl [Ha1]; · iexact Ha1
  iexact Hs1

end Cert.LayerNorm
-- ==== Proof.Split.lean ====
/-
# Buffers in windows, in slots and in shares

A device's rows and the buffers they are copied into are held window by window while its copies fly; its exchange buffer
slot by slot; its own slot in the three shares its transfers read. These take them apart and put them together.
-/
module

public import proofs.«01_k».proof.Proof.Exchange

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rows of the `k`-th window. -/
def rowsAt (k : Fin 8) : Finset S2048x2048.Idx := Finset.univ.filter fun i => 256 * k.val ≤ (i 0).val ∧ (i 0).val < 256 * k.val + 256

theorem rowsAt_disjoint (k k' : Fin 8) (h : k ≠ k') : Disjoint (rowsAt k) (rowsAt k') := by
  rw [Finset.disjoint_left]
  intro i hi hi'
  have h1 := (Finset.mem_filter.mp hi).2
  have h2 := (Finset.mem_filter.mp hi').2
  exact h (Fin.ext (by omega))
theorem rowsAt_cover : Finset.univ.biUnion rowsAt = Finset.univ := by
  refine Finset.eq_univ_iff_forall.mpr fun i => Finset.mem_biUnion.mpr ?_
  have hi : (i 0).val < 2048 := (i 0).isLt
  exact ⟨⟨(i 0).val / 256, by omega⟩, Finset.mem_univ _, Finset.mem_filter.mpr ⟨Finset.mem_univ _, by show 256 * ((i 0).val / 256) ≤ _; omega, by show _ < 256 * ((i 0).val / 256) + 256; omega⟩⟩
theorem rows_eq (k : Fin 8) (o : ℕ) (ho : o = 256 * k.val) (h : ∀ a, (![o, 0] : Fin 2 → ℕ) a + S256x2048.size a ≤ S2048x2048.size a) :
    (rows o h).set = rowsAt k := by
  subst ho
  ext i
  rw [mem_rows]
  exact ⟨fun h => Finset.mem_filter.mpr ⟨Finset.mem_univ _, h⟩, fun h => (Finset.mem_filter.mp h).2⟩

omit [FloatOps F] in
/-- A buffer held whole is its eight parts. -/
theorem split8 {ℓ : Loc nD τ sig} (P : Fin 8 → Finset (Idx ℓ)) (hd : ∀ k k', k ≠ k' → Disjoint (P k) (P k')) (hu : Finset.univ.biUnion P = Finset.univ)
    (f : Buf (Elt F) ℓ) : (ℓ ↦{fullShare} f : sProp 𝕄)
      = iprop((ℓ ↦[P 0]{fullShare} f) ∗ (ℓ ↦[P 1]{fullShare} f) ∗ (ℓ ↦[P 2]{fullShare} f) ∗ (ℓ ↦[P 3]{fullShare} f) ∗ (ℓ ↦[P 4]{fullShare} f) ∗ (ℓ ↦[P 5]{fullShare} f) ∗ (ℓ ↦[P 6]{fullShare} f) ∗ (ℓ ↦[P 7]{fullShare} f)) := by
  rw [← hu, pointsTo_biUnion Finset.univ P (fun t _ t' _ hne => hd t t' hne),
    bigSep_eq_bigSepL_of_eq [0, 1, 2, 3, 4, 5, 6, 7] (by decide) (by decide)]
  simp only [bigSepL_cons_cons, bigSepL_singleton]
  rfl

omit [FloatOps F] in
theorem xH_split (c : Dev nD) (X : XTy (F := F)) : (((c : Thread nD τ).loc main_arg0) ↦{fullShare} X : sProp 𝕄)
      = iprop(held (xH 0 inb_S2048x2048_S256x2048_0_0) c X ∗ held (xH 256 inb_S2048x2048_S256x2048_256_0) c X ∗ held (xH 512 inb_S2048x2048_S256x2048_512_0) c X ∗ held (xH 768 inb_S2048x2048_S256x2048_768_0) c X ∗ held (xH 1024 inb_S2048x2048_S256x2048_1024_0) c X ∗ held (xH 1280 inb_S2048x2048_S256x2048_1280_0) c X ∗ held (xH 1536 inb_S2048x2048_S256x2048_1536_0) c X ∗ held (xH 1792 inb_S2048x2048_S256x2048_1792_0) c X) := by
  have e : ∀ (k : Fin 8) (o : ℕ) (h) (ho : o = 256 * k.val), (held (xH o h) c X : sProp 𝕄) = (((c : Thread nD τ).loc main_arg0) ↦[rowsAt k]{fullShare} X) := by
    intro k o h ho
    rw [← rows_eq k o ho h]
    exact congrArg (fun S => (((c : Thread nD τ).loc main_arg0) ↦[S]{fullShare} X : sProp 𝕄)) (View.set_slice_whole main_arg0 (rows o h))
  rw [e 0 0 _ rfl, e 1 256 _ rfl, e 2 512 _ rfl, e 3 768 _ rfl, e 4 1024 _ rfl, e 5 1280 _ rfl, e 6 1536 _ rfl, e 7 1792 _ rfl]
  exact split8 (ℓ := (c : Thread nD τ).loc main_arg0) rowsAt rowsAt_disjoint rowsAt_cover X

omit [FloatOps F] in
theorem yH_split (c : Dev nD) (X : XTy (F := F)) : (((c : Thread nD τ).loc main_arg1) ↦{fullShare} X : sProp 𝕄)
      = iprop(held (yH 0 inb_S2048x2048_S256x2048_0_0) c X ∗ held (yH 256 inb_S2048x2048_S256x2048_256_0) c X ∗ held (yH 512 inb_S2048x2048_S256x2048_512_0) c X ∗ held (yH 768 inb_S2048x2048_S256x2048_768_0) c X ∗ held (yH 1024 inb_S2048x2048_S256x2048_1024_0) c X ∗ held (yH 1280 inb_S2048x2048_S256x2048_1280_0) c X ∗ held (yH 1536 inb_S2048x2048_S256x2048_1536_0) c X ∗ held (yH 1792 inb_S2048x2048_S256x2048_1792_0) c X) := by
  have e : ∀ (k : Fin 8) (o : ℕ) (h) (ho : o = 256 * k.val), (held (yH o h) c X : sProp 𝕄) = (((c : Thread nD τ).loc main_arg1) ↦[rowsAt k]{fullShare} X) := by
    intro k o h ho
    rw [← rows_eq k o ho h]
    exact congrArg (fun S => (((c : Thread nD τ).loc main_arg1) ↦[S]{fullShare} X : sProp 𝕄)) (View.set_slice_whole main_arg1 (rows o h))
  rw [e 0 0 _ rfl, e 1 256 _ rfl, e 2 512 _ rfl, e 3 768 _ rfl, e 4 1024 _ rfl, e 5 1280 _ rfl, e 6 1536 _ rfl, e 7 1792 _ rfl]
  exact split8 (ℓ := (c : Thread nD τ).loc main_arg1) rowsAt rowsAt_disjoint rowsAt_cover X

omit [FloatOps F] in
theorem xV_split (c : Dev nD) (X : XTy (F := F)) : (((c : Thread nD τ).loc cc0_scratch0) ↦{fullShare} X : sProp 𝕄)
      = iprop(held (xV 0 inb_S2048x2048_S256x2048_0_0) c X ∗ held (xV 256 inb_S2048x2048_S256x2048_256_0) c X ∗ held (xV 512 inb_S2048x2048_S256x2048_512_0) c X ∗ held (xV 768 inb_S2048x2048_S256x2048_768_0) c X ∗ held (xV 1024 inb_S2048x2048_S256x2048_1024_0) c X ∗ held (xV 1280 inb_S2048x2048_S256x2048_1280_0) c X ∗ held (xV 1536 inb_S2048x2048_S256x2048_1536_0) c X ∗ held (xV 1792 inb_S2048x2048_S256x2048_1792_0) c X) := by
  have e : ∀ (k : Fin 8) (o : ℕ) (h) (ho : o = 256 * k.val), (held (xV o h) c X : sProp 𝕄) = (((c : Thread nD τ).loc cc0_scratch0) ↦[rowsAt k]{fullShare} X) := by
    intro k o h ho
    rw [← rows_eq k o ho h]
    exact congrArg (fun S => (((c : Thread nD τ).loc cc0_scratch0) ↦[S]{fullShare} X : sProp 𝕄)) (View.set_slice_whole cc0_scratch0 (rows o h))
  rw [e 0 0 _ rfl, e 1 256 _ rfl, e 2 512 _ rfl, e 3 768 _ rfl, e 4 1024 _ rfl, e 5 1280 _ rfl, e 6 1536 _ rfl, e 7 1792 _ rfl]
  exact split8 (ℓ := (c : Thread nD τ).loc cc0_scratch0) rowsAt rowsAt_disjoint rowsAt_cover X

omit [FloatOps F] in
theorem yV_split (c : Dev nD) (X : XTy (F := F)) : (((c : Thread nD τ).loc cc0_scratch1) ↦{fullShare} X : sProp 𝕄)
      = iprop(held (yV 0 inb_S2048x2048_S256x2048_0_0) c X ∗ held (yV 256 inb_S2048x2048_S256x2048_256_0) c X ∗ held (yV 512 inb_S2048x2048_S256x2048_512_0) c X ∗ held (yV 768 inb_S2048x2048_S256x2048_768_0) c X ∗ held (yV 1024 inb_S2048x2048_S256x2048_1024_0) c X ∗ held (yV 1280 inb_S2048x2048_S256x2048_1280_0) c X ∗ held (yV 1536 inb_S2048x2048_S256x2048_1536_0) c X ∗ held (yV 1792 inb_S2048x2048_S256x2048_1792_0) c X) := by
  have e : ∀ (k : Fin 8) (o : ℕ) (h) (ho : o = 256 * k.val), (held (yV o h) c X : sProp 𝕄) = (((c : Thread nD τ).loc cc0_scratch1) ↦[rowsAt k]{fullShare} X) := by
    intro k o h ho
    rw [← rows_eq k o ho h]
    exact congrArg (fun S => (((c : Thread nD τ).loc cc0_scratch1) ↦[S]{fullShare} X : sProp 𝕄)) (View.set_slice_whole cc0_scratch1 (rows o h))
  rw [e 0 0 _ rfl, e 1 256 _ rfl, e 2 512 _ rfl, e 3 768 _ rfl, e 4 1024 _ rfl, e 5 1280 _ rfl, e 6 1536 _ rfl, e 7 1792 _ rfl]
  exact split8 (ℓ := (c : Thread nD τ).loc cc0_scratch1) rowsAt rowsAt_disjoint rowsAt_cover X

/-- The eight copies' semaphores of `x`, at zero. -/
def semsX (c : Dev nD) : sProp 𝕄 := iprop(semVal ((c : Thread nD τ), SemLoc.dma (inS 0 0 inb_S2x8_S1x1_0_0)) 0 ∗ semVal ((c : Thread nD τ), SemLoc.dma (inS 0 1 inb_S2x8_S1x1_0_1)) 0 ∗ semVal ((c : Thread nD τ), SemLoc.dma (inS 0 2 inb_S2x8_S1x1_0_2)) 0 ∗ semVal ((c : Thread nD τ), SemLoc.dma (inS 0 3 inb_S2x8_S1x1_0_3)) 0 ∗ semVal ((c : Thread nD τ), SemLoc.dma (inS 0 4 inb_S2x8_S1x1_0_4)) 0 ∗ semVal ((c : Thread nD τ), SemLoc.dma (inS 0 5 inb_S2x8_S1x1_0_5)) 0 ∗ semVal ((c : Thread nD τ), SemLoc.dma (inS 0 6 inb_S2x8_S1x1_0_6)) 0 ∗ semVal ((c : Thread nD τ), SemLoc.dma (inS 0 7 inb_S2x8_S1x1_0_7)) 0)
/-- The eight windows of `x` before their copies start, and after they have landed. -/
def idlesX (c : Dev nD) (X : XTy (F := F)) : sProp 𝕄 := iprop(idleX 0 inb_S2048x2048_S256x2048_0_0 0 0 inb_S2x8_S1x1_0_0 c X ∗ idleX 256 inb_S2048x2048_S256x2048_256_0 0 1 inb_S2x8_S1x1_0_1 c X ∗ idleX 512 inb_S2048x2048_S256x2048_512_0 0 2 inb_S2x8_S1x1_0_2 c X ∗ idleX 768 inb_S2048x2048_S256x2048_768_0 0 3 inb_S2x8_S1x1_0_3 c X ∗ idleX 1024 inb_S2048x2048_S256x2048_1024_0 0 4 inb_S2x8_S1x1_0_4 c X ∗ idleX 1280 inb_S2048x2048_S256x2048_1280_0 0 5 inb_S2x8_S1x1_0_5 c X ∗ idleX 1536 inb_S2048x2048_S256x2048_1536_0 0 6 inb_S2x8_S1x1_0_6 c X ∗ idleX 1792 inb_S2048x2048_S256x2048_1792_0 0 7 inb_S2x8_S1x1_0_7 c X)
def donesX (c : Dev nD) (X : XTy (F := F)) : sProp 𝕄 := iprop(doneX 0 inb_S2048x2048_S256x2048_0_0 0 0 inb_S2x8_S1x1_0_0 c X ∗ doneX 256 inb_S2048x2048_S256x2048_256_0 0 1 inb_S2x8_S1x1_0_1 c X ∗ doneX 512 inb_S2048x2048_S256x2048_512_0 0 2 inb_S2x8_S1x1_0_2 c X ∗ doneX 768 inb_S2048x2048_S256x2048_768_0 0 3 inb_S2x8_S1x1_0_3 c X ∗ doneX 1024 inb_S2048x2048_S256x2048_1024_0 0 4 inb_S2x8_S1x1_0_4 c X ∗ doneX 1280 inb_S2048x2048_S256x2048_1280_0 0 5 inb_S2x8_S1x1_0_5 c X ∗ doneX 1536 inb_S2048x2048_S256x2048_1536_0 0 6 inb_S2x8_S1x1_0_6 c X ∗ doneX 1792 inb_S2048x2048_S256x2048_1792_0 0 7 inb_S2x8_S1x1_0_7 c X)
omit [FloatOps F] in
theorem apartX (c : Dev nD) (X : XTy (F := F)) :
    iprop((((c : Thread nD τ).loc main_arg0) ↦{fullShare} X) ∗ (∃ f, (((c : Thread nD τ).loc cc0_scratch0) ↦{fullShare} f)) ∗ semsX c) ⊢ (idlesX c X : sProp 𝕄) := by
  unfold semsX idlesX idleX
  iintro ⟨HA, ⟨%f, HB⟩, H0, H1, H2, H3, H4, H5, H6, H7⟩
  ihave HA' := (Entails.of_eq (xH_split c X)) $$ HA
  ihave HB' := (Entails.of_eq (xV_split c f)) $$ HB
  icases HA' with ⟨A0, A1, A2, A3, A4, A5, A6, A7⟩
  icases HB' with ⟨B0, B1, B2, B3, B4, B5, B6, B7⟩
  isplitl [A0 B0 H0]
  · isplitl [A0]; · iexact A0
    isplitl [B0]; · iexists f; iexact B0
    iexact H0
  isplitl [A1 B1 H1]
  · isplitl [A1]; · iexact A1
    isplitl [B1]; · iexists f; iexact B1
    iexact H1
  isplitl [A2 B2 H2]
  · isplitl [A2]; · iexact A2
    isplitl [B2]; · iexists f; iexact B2
    iexact H2
  isplitl [A3 B3 H3]
  · isplitl [A3]; · iexact A3
    isplitl [B3]; · iexists f; iexact B3
    iexact H3
  isplitl [A4 B4 H4]
  · isplitl [A4]; · iexact A4
    isplitl [B4]; · iexists f; iexact B4
    iexact H4
  isplitl [A5 B5 H5]
  · isplitl [A5]; · iexact A5
    isplitl [B5]; · iexists f; iexact B5
    iexact H5
  isplitl [A6 B6 H6]
  · isplitl [A6]; · iexact A6
    isplitl [B6]; · iexists f; iexact B6
    iexact H6
  isplitl [A7]; · iexact A7
  isplitl [B7]; · iexists f; iexact B7
  iexact H7
omit [FloatOps F] in
theorem togetherX (c : Dev nD) (X : XTy (F := F)) :
    donesX c X ⊢ (iprop((((c : Thread nD τ).loc main_arg0) ↦{fullShare} X) ∗ (((c : Thread nD τ).loc cc0_scratch0) ↦{fullShare} X) ∗ semsX c) : sProp 𝕄) := by
  rw [xH_split, xV_split]
  unfold semsX donesX doneX
  iintro ⟨⟨A0, B0, H0⟩, ⟨A1, B1, H1⟩, ⟨A2, B2, H2⟩, ⟨A3, B3, H3⟩, ⟨A4, B4, H4⟩, ⟨A5, B5, H5⟩, ⟨A6, B6, H6⟩, ⟨A7, B7, H7⟩⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The eight copies' semaphores of `y`, at zero. -/
def semsY (c : Dev nD) : sProp 𝕄 := iprop(semVal ((c : Thread nD τ), SemLoc.dma (inS 1 0 inb_S2x8_S1x1_1_0)) 0 ∗ semVal ((c : Thread nD τ), SemLoc.dma (inS 1 1 inb_S2x8_S1x1_1_1)) 0 ∗ semVal ((c : Thread nD τ), SemLoc.dma (inS 1 2 inb_S2x8_S1x1_1_2)) 0 ∗ semVal ((c : Thread nD τ), SemLoc.dma (inS 1 3 inb_S2x8_S1x1_1_3)) 0 ∗ semVal ((c : Thread nD τ), SemLoc.dma (inS 1 4 inb_S2x8_S1x1_1_4)) 0 ∗ semVal ((c : Thread nD τ), SemLoc.dma (inS 1 5 inb_S2x8_S1x1_1_5)) 0 ∗ semVal ((c : Thread nD τ), SemLoc.dma (inS 1 6 inb_S2x8_S1x1_1_6)) 0 ∗ semVal ((c : Thread nD τ), SemLoc.dma (inS 1 7 inb_S2x8_S1x1_1_7)) 0)
/-- The eight windows of `y` before their copies start, and after they have landed. -/
def idlesY (c : Dev nD) (X : XTy (F := F)) : sProp 𝕄 := iprop(idleY 0 inb_S2048x2048_S256x2048_0_0 1 0 inb_S2x8_S1x1_1_0 c X ∗ idleY 256 inb_S2048x2048_S256x2048_256_0 1 1 inb_S2x8_S1x1_1_1 c X ∗ idleY 512 inb_S2048x2048_S256x2048_512_0 1 2 inb_S2x8_S1x1_1_2 c X ∗ idleY 768 inb_S2048x2048_S256x2048_768_0 1 3 inb_S2x8_S1x1_1_3 c X ∗ idleY 1024 inb_S2048x2048_S256x2048_1024_0 1 4 inb_S2x8_S1x1_1_4 c X ∗ idleY 1280 inb_S2048x2048_S256x2048_1280_0 1 5 inb_S2x8_S1x1_1_5 c X ∗ idleY 1536 inb_S2048x2048_S256x2048_1536_0 1 6 inb_S2x8_S1x1_1_6 c X ∗ idleY 1792 inb_S2048x2048_S256x2048_1792_0 1 7 inb_S2x8_S1x1_1_7 c X)
def donesY (c : Dev nD) (X : XTy (F := F)) : sProp 𝕄 := iprop(doneY 0 inb_S2048x2048_S256x2048_0_0 1 0 inb_S2x8_S1x1_1_0 c X ∗ doneY 256 inb_S2048x2048_S256x2048_256_0 1 1 inb_S2x8_S1x1_1_1 c X ∗ doneY 512 inb_S2048x2048_S256x2048_512_0 1 2 inb_S2x8_S1x1_1_2 c X ∗ doneY 768 inb_S2048x2048_S256x2048_768_0 1 3 inb_S2x8_S1x1_1_3 c X ∗ doneY 1024 inb_S2048x2048_S256x2048_1024_0 1 4 inb_S2x8_S1x1_1_4 c X ∗ doneY 1280 inb_S2048x2048_S256x2048_1280_0 1 5 inb_S2x8_S1x1_1_5 c X ∗ doneY 1536 inb_S2048x2048_S256x2048_1536_0 1 6 inb_S2x8_S1x1_1_6 c X ∗ doneY 1792 inb_S2048x2048_S256x2048_1792_0 1 7 inb_S2x8_S1x1_1_7 c X)
omit [FloatOps F] in
theorem apartY (c : Dev nD) (X : XTy (F := F)) :
    iprop((((c : Thread nD τ).loc main_arg1) ↦{fullShare} X) ∗ (∃ f, (((c : Thread nD τ).loc cc0_scratch1) ↦{fullShare} f)) ∗ semsY c) ⊢ (idlesY c X : sProp 𝕄) := by
  unfold semsY idlesY idleY
  iintro ⟨HA, ⟨%f, HB⟩, H0, H1, H2, H3, H4, H5, H6, H7⟩
  ihave HA' := (Entails.of_eq (yH_split c X)) $$ HA
  ihave HB' := (Entails.of_eq (yV_split c f)) $$ HB
  icases HA' with ⟨A0, A1, A2, A3, A4, A5, A6, A7⟩
  icases HB' with ⟨B0, B1, B2, B3, B4, B5, B6, B7⟩
  isplitl [A0 B0 H0]
  · isplitl [A0]; · iexact A0
    isplitl [B0]; · iexists f; iexact B0
    iexact H0
  isplitl [A1 B1 H1]
  · isplitl [A1]; · iexact A1
    isplitl [B1]; · iexists f; iexact B1
    iexact H1
  isplitl [A2 B2 H2]
  · isplitl [A2]; · iexact A2
    isplitl [B2]; · iexists f; iexact B2
    iexact H2
  isplitl [A3 B3 H3]
  · isplitl [A3]; · iexact A3
    isplitl [B3]; · iexists f; iexact B3
    iexact H3
  isplitl [A4 B4 H4]
  · isplitl [A4]; · iexact A4
    isplitl [B4]; · iexists f; iexact B4
    iexact H4
  isplitl [A5 B5 H5]
  · isplitl [A5]; · iexact A5
    isplitl [B5]; · iexists f; iexact B5
    iexact H5
  isplitl [A6 B6 H6]
  · isplitl [A6]; · iexact A6
    isplitl [B6]; · iexists f; iexact B6
    iexact H6
  isplitl [A7]; · iexact A7
  isplitl [B7]; · iexists f; iexact B7
  iexact H7
omit [FloatOps F] in
theorem togetherY (c : Dev nD) (X : XTy (F := F)) :
    donesY c X ⊢ (iprop((((c : Thread nD τ).loc main_arg1) ↦{fullShare} X) ∗ (((c : Thread nD τ).loc cc0_scratch1) ↦{fullShare} X) ∗ semsY c) : sProp 𝕄) := by
  rw [yH_split, yV_split]
  unfold semsY donesY doneY
  iintro ⟨⟨A0, B0, H0⟩, ⟨A1, B1, H1⟩, ⟨A2, B2, H2⟩, ⟨A3, B3, H3⟩, ⟨A4, B4, H4⟩, ⟨A5, B5, H5⟩, ⟨A6, B6, H6⟩, ⟨A7, B7, H7⟩⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [FloatOps F] in
/-- The exchange buffer is its four slots: the device's own, and those of the devices one, two and three places on. -/
theorem slots_split (c : Dev nD) (f : S4x2x2048.Idx → Elt F .f32) : (((c : Thread nD τ).loc cc0_scratch2) ↦{fullShare} f : sProp 𝕄)
      = iprop(slotPts fullShare c c f ∗ slotPts fullShare c (pl 1 c) f ∗ slotPts fullShare c (pl 2 c) f ∗ slotPts fullShare c (pl 3 c) f) := by
  have hu : Finset.univ.biUnion (fun j : Dev nD => (slotM j).view.set) = (Finset.univ : Finset S4x2x2048.Idx) :=
    Finset.eq_univ_iff_forall.mpr fun i => Finset.mem_biUnion.mpr ⟨i 0, Finset.mem_univ _, (mem_slot (i 0) i).mpr rfl⟩
  have hd : ∀ j ∈ (Finset.univ : Finset (Dev nD)), ∀ j' ∈ (Finset.univ : Finset (Dev nD)), j ≠ j' → Disjoint ((slotM j).view.set) ((slotM j').view.set) := by
    intro j _ j' _ hne
    rw [Finset.disjoint_left]
    intro i hi hi'
    exact hne (((mem_slot j i).mp hi).symm.trans ((mem_slot j' i).mp hi'))
  refine Eq.trans (congrArg (fun S => (((c : Thread nD τ).loc cc0_scratch2) ↦[S]{fullShare} f : sProp 𝕄)) hu.symm) ?_
  refine (pointsTo_biUnion (ℓ := (c : Thread nD τ).loc cc0_scratch2) Finset.univ (fun j : Dev nD => (slotM j).view.set) hd).trans ?_
  rw [bigSep_eq_bigSepL_of_eq [c, pl 1 c, pl 2 c, pl 3 c] (by revert c; decide) (by revert c; decide)]
  simp only [bigSepL_cons_cons, bigSepL_singleton]
  rfl

omit [FloatOps F] in
/-- A device's own slot is the three shares its transfers read. -/
theorem shares_split (c : Dev nD) (f : S4x2x2048.Idx → Elt F .f32) : (slotPts fullShare c c f : sProp 𝕄)
      ⊣⊢ iprop(slotPts (shareOf (.dma send0)) c c f ∗ slotPts (shareOf (.dma send1)) c c f ∗ slotPts (shareOf (.dma send2)) c c f) := by
  rw [share0, share1, share2]
  unfold slotPts
  have h1 := pointsTo_share (Ix := Unit) (Name := ℕ) (U := UU) (Lvl := ℕ) (ℓ := (slotM c).view.loc (c : Thread nD τ)) (I := (slotM c).view.set) (f := f) (PosShare.mem_left_op_right fullShare)
  have h2 := pointsTo_share (Ix := Unit) (Name := ℕ) (U := UU) (Lvl := ℕ) (ℓ := (slotM c).view.loc (c : Thread nD τ)) (I := (slotM c).view.set) (f := f) (PosShare.mem_left_op_right fullShare.right)
  constructor
  · iintro H
    ihave H' := h1.1 $$ H
    icases H' with ⟨Hl, Hr⟩
    ihave Hr' := h2.1 $$ Hr
    isplitl [Hl]; · iexact Hl
    iexact Hr'
  · iintro ⟨Hl, Hr⟩
    iapply h1.2
    isplitl [Hl]; · iexact Hl
    iapply h2.2
    iexact Hr

end Cert.LayerNorm
-- ==== Proof.Body.lean ====
/-
# The kernel's body on one device

What a device's body starts from and what it leaves, and that it takes the one to the other.
-/
module

public import proofs.«01_k».proof.Proof.Steps
public import proofs.«01_k».proof.Proof.Split
public import proofs.«01_k».proof.Proof.Gen.KernelIdeal.Launch
public import proofs.«01_k».proof.Proof.Gen.KernelIdeal.Points

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

omit [FloatOps F] in
/-- Over a device's eight cells: its barrier, its three send cells, its receive cells for itself and the three others. -/
theorem cells_split (c : Dev nD) (Φ : GSem nD τ sig → sProp 𝕄) : bigSep Finset.univ (fun k : Fin 8 => Φ (kcell (c, k)))
      = iprop(Φ (barCell c) ∗ Φ (sendCell c send0) ∗ Φ (sendCell c send1) ∗ Φ (sendCell c send2) ∗ Φ (recvCell c c) ∗ Φ (recvCell c (pl 1 c)) ∗ Φ (recvCell c (pl 2 c)) ∗ Φ (recvCell c (pl 3 c))) := by
  rw [bigSep_eq_bigSepL_of_eq [0, 1, 2, 3, rk c, rk (pl 1 c), rk (pl 2 c), rk (pl 3 c)] (by revert c; decide) (by revert c; decide)]
  simp only [bigSepL_cons_cons, bigSepL_singleton, kcell_rk]
  rfl

/-- A device's positions at the start of its cells. -/
def starts (c : Dev nD) : sProp 𝕄 := iprop(atPos ER (barCell c) 0 ∅ 0 ∗ atPos ER (sendCell c send0) 0 ∅ 0 ∗ atPos ER (sendCell c send1) 0 ∅ 0 ∗ atPos ER (sendCell c send2) 0 ∅ 0 ∗ atPos ER (recvCell c c) 0 ∅ 0 ∗ atPos ER (recvCell c (pl 1 c)) 0 ∅ 0 ∗ atPos ER (recvCell c (pl 2 c)) 0 ∅ 0 ∗ atPos ER (recvCell c (pl 3 c)) 0 ∅ 0)
/-- A device's cells at zero. -/
def zeros (c : Dev nD) : sProp 𝕄 := iprop(semVal (barCell c) 0 ∗ semVal (sendCell c send0) 0 ∗ semVal (sendCell c send1) 0 ∗ semVal (sendCell c send2) 0 ∗ semVal (recvCell c c) 0 ∗ semVal (recvCell c (pl 1 c)) 0 ∗ semVal (recvCell c (pl 2 c)) 0 ∗ semVal (recvCell c (pl 3 c)) 0)
/-- The duties a device pays: the three others' barriers, its slot on the three others, its three send cells. -/
def payToks (c : Dev nD) : sProp 𝕄 :=
  iprop(dutyTok ER (barCell (pl 1 c)) 0 c ∗ dutyTok ER (barCell (pl 2 c)) 0 c ∗ dutyTok ER (barCell (pl 3 c)) 0 c
    ∗ dutyTok ER (recvCell (pl 1 c) c) 0 c ∗ dutyTok ER (recvCell (pl 2 c) c) 0 c ∗ dutyTok ER (recvCell (pl 3 c) c) 0 c
    ∗ dutyTok ER (sendCell c send0) 0 0 ∗ dutyTok ER (sendCell c send1) 0 0 ∗ dutyTok ER (sendCell c send2) 0 0)
/-- What it may wait for. -/
def credits (c : Dev nD) : sProp 𝕄 :=
  iprop(cred (tallyAt (barCell c) () 3) ∗ cred (tallyAt (recvCell c (pl 1 c)) () N) ∗ cred (tallyAt (recvCell c (pl 2 c)) () N) ∗ cred (tallyAt (recvCell c (pl 3 c)) () N))
/-- The exchange's state a device starts from. -/
def ghost (c : Dev nD) : sProp 𝕄 := iprop(records m K ∗ starts c ∗ payToks c)

def argX (c : Dev nD) : sProp 𝕄 := iprop(((c : Thread nD τ).loc main_arg0) ↦{fullShare} Xd m c)
def argY (c : Dev nD) : sProp 𝕄 := iprop(((c : Thread nD τ).loc main_arg1) ↦{fullShare} Yd m c)
/-- The three buffers on chip, whatever they hold. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device `c`'s body starts from, but for its buffers on chip. -/
def start (c : Dev nD) : sProp 𝕄 :=
  iprop((∃ K, ghost m K c) ∗ semsX c ∗ semsY c ∗ credits c ∗ levAts L lv ∗ argX m c ∗ argY m c)
def Φ₀ (c : Dev nD) : sProp 𝕄 := iprop(start m c ∗ bufs c)
/-- What it leaves: its rows as they were, every semaphore at zero, its buffers on chip. -/
def Φ₁ (c : Dev nD) : sProp 𝕄 := iprop(argX m c ∗ argY m c ∗ zeros c ∗ semsX c ∗ semsY c ∗ bufs c)

/-- A cell whose rounds are over closes to its counter at zero. -/
theorem close_cell (ck : Dev nD × Fin 8) (g : GSem nD τ sig) (h : kcell ck = g) (R : ℕ) (hR : ∀ r, R ≤ r → (Rd (F := F) m).duties g r = ∅) :
    iprop(records m K ∗ atPos ER g R ∅ 0) ⊢ (|={Set.univ}=> semVal g 0 : sProp 𝕄) := by
  iintro ⟨#HR, Hat⟩
  iapply (Rounds.cell_close ER (Rd m) (Set.mem_univ (K ck)) (fun h => h) (R := R) hR)
  isplitr; · iapply (inv_at m K ck h); iexact HR
  iexact Hat

/-- All eight close together. -/
theorem close_all (c : Dev nD) : iprop(records m K ∗ atPos ER (barCell c) 1 ∅ 0 ∗ atPos ER (sendCell c send0) 1 ∅ 0 ∗ atPos ER (sendCell c send1) 1 ∅ 0 ∗ atPos ER (sendCell c send2) 1 ∅ 0 ∗ atPos ER (recvCell c c) 0 ∅ 0 ∗ atPos ER (recvCell c (pl 1 c)) 1 ∅ 0 ∗ atPos ER (recvCell c (pl 2 c)) 1 ∅ 0 ∗ atPos ER (recvCell c (pl 3 c)) 1 ∅ 0)
      ⊢ (|={Set.univ}=> zeros c : sProp 𝕄) := by
  iintro ⟨#HR, H0, H1, H2, H3, H4, H5, H6, H7⟩
  imod (close_cell m K (c, 0) (barCell c) (rfl) 1 (duties_later m _)) $$ [H0] with Z0
  · isplitr; · iexact HR
    iexact H0
  imod (close_cell m K (c, 1) (sendCell c send0) (rfl) 1 (duties_later m _)) $$ [H1] with Z1
  · isplitr; · iexact HR
    iexact H1
  imod (close_cell m K (c, 2) (sendCell c send1) (rfl) 1 (duties_later m _)) $$ [H2] with Z2
  · isplitr; · iexact HR
    iexact H2
  imod (close_cell m K (c, 3) (sendCell c send2) (rfl) 1 (duties_later m _)) $$ [H3] with Z3
  · isplitr; · iexact HR
    iexact H3
  imod (close_cell m K (c, rk c) (recvCell c c) (kcell_rk c _) 0 (duties_self m c)) $$ [H4] with Z4
  · isplitr; · iexact HR
    iexact H4
  imod (close_cell m K (c, rk (pl 1 c)) (recvCell c (pl 1 c)) (kcell_rk c _) 1 (duties_later m _)) $$ [H5] with Z5
  · isplitr; · iexact HR
    iexact H5
  imod (close_cell m K (c, rk (pl 2 c)) (recvCell c (pl 2 c)) (kcell_rk c _) 1 (duties_later m _)) $$ [H6] with Z6
  · isplitr; · iexact HR
    iexact H6
  imod (close_cell m K (c, rk (pl 3 c)) (recvCell c (pl 3 c)) (kcell_rk c _) 1 (duties_later m _)) $$ [H7] with Z7
  · isplitr; · iexact HR
    iexact H7
  imodintro
  unfold zeros
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  iexact Z7

set_option maxHeartbeats 1600000 in
/-- The body, stretch by stretch. -/
theorem sound_body (c : Dev nD) (Kt : PUnit → sProp 𝕄) :
    iprop((ghost m K c ∗ semsX c ∗ semsY c ∗ credits c ∗ levAts L lv ∗ argX m c ∗ argY m c) ∗ bufs c ∗ owing c (O₀ c) ∗ (∃ f, stgPts c f)
        ∗ (iprop(Φ₁ m c ∗ owing c 0 ∗ stgPts c (outV m c)) -∗ Kt ⟨⟩))
      ⊢ wp frame (wpE (defs₀ (F := F)) 𝒱₀ (c : Thread nD τ) none) Set.univ (cc0_body (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  rw [cc0_body_eq_skeleton]; unfold cc0_body_skel ghost starts payToks credits bufs
  iintro ⟨⟨⟨#HR, ⟨AtB, AtS0, AtS1, AtS2, AtRc, AtR1, AtR2, AtR3⟩, DB1, DB2, DB3, DR1, DR2, DR3, DS0, DS1, DS2⟩, SX, SY, ⟨CB, CR1, CR2, CR3⟩, #Hlev, AX, AY⟩,
    ⟨B0, B1, ⟨%f2, B2⟩⟩, HO, Hstg, Hk⟩
  ihave IX := (apartX c (Xd m c)) $$ [AX B0 SX]
  · isplitl [AX]; · unfold argX; iexact AX
    isplitl [B0]; · iexact B0
    iexact SX
  ihave IY := (apartY c (Yd m c)) $$ [AY B1 SY]
  · isplitl [AY]; · unfold argY; iexact AY
    isplitl [B1]; · iexact B1
    iexact SY
  unfold idlesX idlesY
  icases IX with ⟨X0, X1, X2, X3, X4, X5, X6, X7⟩
  icases IY with ⟨Y0, Y1, Y2, Y3, Y4, Y5, Y6, Y7⟩
  ihave B2' := (Entails.of_eq (slots_split c f2)) $$ B2
  icases B2' with ⟨Lc, L1, L2, L3⟩
  rw [wp_bind]
  iapply (issue1 c (Xd m c) (Yd m c))
  isplitl [X0 Y0 X1 Y1]
  · isplitl [X0]; · iexact X0
    isplitl [Y0]; · iexact Y0
    isplitl [X1]; · iexact X1
    iexact Y1
  iintro ⟨X0, Y0, X1, Y1⟩
  rw [wp_bind]
  iapply (issue2 c (Xd m c) (Yd m c))
  isplitl [X2 Y2 X3 Y3 X4 Y4]
  · isplitl [X2]; · iexact X2
    isplitl [Y2]; · iexact Y2
    isplitl [X3]; · iexact X3
    isplitl [Y3]; · iexact Y3
    isplitl [X4]; · iexact X4
    iexact Y4
  iintro ⟨X2, Y2, X3, Y3, X4, Y4⟩
  rw [wp_bind]
  iapply (issue3 c (Xd m c) (Yd m c))
  isplitl [X5 Y5 X6 Y6 X7]
  · isplitl [X5]; · iexact X5
    isplitl [Y5]; · iexact Y5
    isplitl [X6]; · iexact X6
    isplitl [Y6]; · iexact Y6
    iexact X7
  iintro ⟨X5, Y5, X6, Y6, X7⟩
  rw [wp_bind]
  iapply (signals m K c _ (Yd m c))
  isplitr; · iexact HR
  isplitl [Y7]; · iexact Y7
  isplitl [HO]; · iexact HO
  isplitl [DB1]; · iexact DB1
  isplitl [DB2]; · iexact DB2
  isplitl [L1]; · iexists f2; iexact L1
  isplitl [L2]; · iexists f2; iexact L2
  iintro %a4 %b4 %d4 ⟨Y7, HO⟩
  rw [wp_bind]
  iapply (barrier m K c a4 b4 d4 (Xd m c) (Yd m c))
  isplitr; · iexact HR
  isplitr; · iexact Hlev
  isplitl [HO]; · iexact HO
  isplitl [DB3]; · iexact DB3
  isplitl [L3]; · iexists f2; iexact L3
  isplitl [CB]; · iexact CB
  isplitl [AtB]; · iexact AtB
  isplitl [X0 Y0]
  · isplitl [X0]; · iexact X0
    iexact Y0
  iintro ⟨HO, AtB, P1, P2, P3, X0, Y0⟩
  rw [wp_bind]
  iapply (chunk1 c (Xd m c) (Yd m c))
  isplitl [X1 Y1]
  · isplitl [X1]; · iexact X1
    iexact Y1
  isplitl [HO]; · iexact HO
  isplitr; · iexact Hlev
  iintro ⟨X1, Y1, HO⟩
  rw [wp_bind]
  iapply (chunk2 c (Xd m c) (Yd m c))
  isplitl [X2 Y2]
  · isplitl [X2]; · iexact X2
    iexact Y2
  isplitl [HO]; · iexact HO
  isplitr; · iexact Hlev
  iintro ⟨X2, Y2, HO⟩
  rw [wp_bind]
  iapply (chunk3 c (Xd m c) (Yd m c))
  isplitl [X3 Y3]
  · isplitl [X3]; · iexact X3
    iexact Y3
  isplitl [HO]; · iexact HO
  isplitr; · iexact Hlev
  iintro ⟨X3, Y3, HO⟩
  rw [wp_bind]
  iapply (chunk4 c (Xd m c) (Yd m c))
  isplitl [X4 Y4]
  · isplitl [X4]; · iexact X4
    iexact Y4
  isplitl [HO]; · iexact HO
  isplitr; · iexact Hlev
  iintro ⟨X4, Y4, HO⟩
  rw [wp_bind]
  iapply (chunk5 c (Xd m c) (Yd m c))
  isplitl [X5 Y5]
  · isplitl [X5]; · iexact X5
    iexact Y5
  isplitl [HO]; · iexact HO
  isplitr; · iexact Hlev
  iintro ⟨X5, Y5, HO⟩
  rw [wp_bind]
  iapply (chunk6 c (Xd m c) (Yd m c))
  isplitl [X6 Y6]
  · isplitl [X6]; · iexact X6
    iexact Y6
  isplitl [HO]; · iexact HO
  isplitr; · iexact Hlev
  iintro ⟨X6, Y6, HO⟩
  rw [wp_bind]
  iapply (chunk7 c (Xd m c) (Yd m c))
  isplitl [X7 Y7]
  · isplitl [X7]; · iexact X7
    iexact Y7
  isplitl [HO]; · iexact HO
  isplitr; · iexact Hlev
  iintro ⟨X7, Y7, HO⟩
  rw [wp_bind]
  iapply (stores m c _)
  isplitl [Hstg]; · iexact Hstg
  isplitl [Lc]; · iexists f2; iexact Lc
  iintro ⟨Hstg, Lc⟩
  ihave Lc' := (shares_split c (commV m)).1 $$ Lc
  icases Lc' with ⟨Q0, Q1, Q2⟩
  rw [wp_bind]
  iapply (sends m K c _)
  isplitr; · iexact HR
  isplitl [HO]; · iexact HO
  isplitl [Q1 P2 DS1 DR2]
  · isplitl [Q1]; · iexact Q1
    isplitl [P2]; · iexact P2
    isplitl [DS1]; · iexact DS1
    iexact DR2
  isplitl [Q0 P1 DS0 DR1]
  · isplitl [Q0]; · iexact Q0
    isplitl [P1]; · iexact P1
    isplitl [DS0]; · iexact DS0
    iexact DR1
  iintro %a14 %b14 ⟨CS1, CS0, HO⟩
  rw [wp_bind]
  iapply (take1 m K c _ a14 b14)
  isplitr; · iexact HR
  isplitl [HO]; · iexact HO
  isplitl [Q2 P3 DS2 DR3]
  · isplitl [Q2]; · iexact Q2
    isplitl [P3]; · iexact P3
    isplitl [DS2]; · iexact DS2
    iexact DR3
  isplitl [CR1]; · iexact CR1
  isplitl [AtR1]; · iexact AtR1
  isplitl [Hstg]; · iexact Hstg
  iintro ⟨CS2, HO, AtR1, L1, Hstg⟩
  rw [wp_bind]
  iapply (take3 m K c _)
  isplitr; · iexact HR
  isplitl [HO]; · iexact HO
  isplitl [CR3]; · iexact CR3
  isplitl [AtR3]; · iexact AtR3
  isplitl [Hstg]; · iexact Hstg
  iintro %a16 %b16 ⟨HO, AtR3, L3, Hstg⟩
  rw [wp_bind]
  iapply (take2 m K c _ a16 b16)
  isplitr; · iexact HR
  isplitl [HO]; · iexact HO
  isplitl [CR2]; · iexact CR2
  isplitl [AtR2]; · iexact AtR2
  isplitl [Hstg]; · iexact Hstg
  isplitl [CS1]; · iexact CS1
  isplitl [AtS1]; · iexact AtS1
  iintro ⟨HO, AtR2, L2, Hstg, AtS1, Q1⟩
  simp only [Prog.lift, Prog.bind_op, Prog.bind_ret, Prog.pure_eq_ret]
  iapply (waitSend m K c send0 (Or.inl rfl) 1 rfl) $$ [CS0 HO AtS0]
  · isplitr; · iexact HR
    isplitl [CS0]; · iexact CS0
    isplitl [HO]; · iexact HO
    iexact AtS0
  iintro ⟨HO, AtS0, Q0⟩
  iapply (waitSend m K c send2 (Or.inr (Or.inr rfl)) 3 rfl) $$ [CS2 HO AtS2]
  · isplitr; · iexact HR
    isplitl [CS2]; · iexact CS2
    isplitl [HO]; · iexact HO
    iexact AtS2
  iintro ⟨HO, AtS2, Q2⟩
  imod (close_all m K c) $$ [AtB AtS0 AtS1 AtS2 AtRc AtR1 AtR2 AtR3] with HZ
  · isplitr; · iexact HR
    isplitl [AtB]; · iexact AtB
    isplitl [AtS0]; · iexact AtS0
    isplitl [AtS1]; · iexact AtS1
    isplitl [AtS2]; · iexact AtS2
    isplitl [AtRc]; · iexact AtRc
    isplitl [AtR1]; · iexact AtR1
    isplitl [AtR2]; · iexact AtR2
    iexact AtR3
  rw [wp_ret]; imodintro
  iapply Hk
  ihave JX := (togetherX c (Xd m c)) $$ [X0 X1 X2 X3 X4 X5 X6 X7]
  · unfold donesX
    isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  icases JX with ⟨AX, B0, SX⟩
  ihave JY := (togetherY c (Yd m c)) $$ [Y0 Y1 Y2 Y3 Y4 Y5 Y6 Y7]
  · unfold donesY
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  icases JY with ⟨AY, B1, SY⟩
  isplitr [HO Hstg]
  · unfold Φ₁ bufs
    isplitl [AX]; · unfold argX; iexact AX
    isplitl [AY]; · unfold argY; iexact AY
    isplitl [HZ]; · iexact HZ
    isplitl [SX]; · iexact SX
    isplitl [SY]; · iexact SY
    isplitl [B0]; · iexists (Xd m c); iexact B0
    isplitl [B1]; · iexists (Yd m c); iexact B1
    iexists (commV m)
    rw [slots_split]
    isplitl [Q0 Q1 Q2]
    · iapply (shares_split c (commV m)).2
      isplitl [Q0]; · iexact Q0
      isplitl [Q1]; · iexact Q1
      iexact Q2
    isplitl [L1]; · iexact L1
    isplitl [L2]; · iexact L2
    iexact L3
  isplitl [HO]; · iexact HO
  iexact Hstg

end Cert.LayerNorm
-- ==== Proof.Data.lean ====
/-
# The pipeline's data and the body's obligation

The one point of the call: what each device holds before it and after it, and that its body takes the one to the other.
-/
module

public import proofs.«01_k».proof.Proof.Body

public import Idealize.ShloMosaic.Lib.Pipeline.Launch
public import Idealize.ShloMosaic.Lib.Pipeline.Kit

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The result's staging buffer at contents `X`. -/
abbrev stgAt (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t₀.castSucc ∗ (∃ d, stgAt c ((dats m 0 c).before (0 : Fin 1) t₀ d)))
def bodyPost (c : Dev nD) : sProp 𝕄 :=
  iprop(Φ₁ m c ∗ (dats m 0 c).owesAt () t₀.succ ∗ stgAt c (outV m c))

set_option maxRecDepth 4000 in
/-- The body's obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ
    (cc0_body (Memref.whole main_arg0) (Memref.isWhole_whole _) (Memref.whole main_arg1) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5) (fun _ => bodyPost m c)
  unfold bodyPre Φ₀ start
  iintro ⟨⟨⟨⟨%K, Hg⟩, HX, HY, Hc, Hl, HAX, HAY⟩, Hb⟩, Ho, ⟨%d0, %g0, %hg0, Hout⟩⟩
  unfold Dat.owesAt Pipeline.owesWithin
  icases Ho with ⟨%W, %hW, HO⟩
  rw [show (dats m 0 c).owed t₀.castSucc = O₀ c from rfl]
  iapply (sound_body m K c fun _ => bodyPost m c)
  isplitl [Hg HX HY Hc Hl HAX HAY]
  · isplitl [Hg]; · iexact Hg
    isplitl [HX]; · iexact HX
    isplitl [HY]; · iexact HY
    isplitl [Hc]; · iexact Hc
    isplitl [Hl]; · iexact Hl
    isplitl [HAX]; · iexact HAX
    iexact HAY
  isplitl [Hb]; · iexact Hb
  isplitl [HO]; · unfold owing; iexists W; iexact HO
  isplitl [Hout]; · iexists g0; unfold stgPts; iexact Hout
  iintro ⟨HΦ, Ho, Hout⟩
  unfold bodyPost owing stgPts Dat.owesAt Pipeline.owesWithin
  icases Ho with ⟨%W', HO⟩
  rw [show (dats m 0 c).owed t₀.succ = 0 from rfl]
  isplitl [HΦ]; · iexact HΦ
  isplitl [HO]
  · iexists W'
    isplitr; · ipureintro; exact fun _ _ => Or.inl trivial
    iexact HO
  iexists _; isplitr; · (ipureintro; rfl)
  iexact Hout

end Cert.LayerNorm
-- ==== Proof.Launch.lean ====
/-
# The launch

The semaphores of all devices made cells, their tokens dealt around the ring, the credits each device starts with, and the run of
the whole program from any memory with zero counters.
-/
module

public import proofs.«01_k».proof.Proof.Data

public import Idealize.ShloMosaic.Lib.Pipeline.Launch
public import Idealize.ShloMosaic.Lib.Pipeline.Kit
public import Idealize.ShloMosaic.Lib.Tactic
public import Idealize.ShloMosaic.Lib.Pipeline.CollectiveSegs

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The call's own semaphores: the copies', the sends', the receives'. -/
abbrev osem : Fin 23 → SemLoc sig := fun
  | 0 => .dma (inS 0 0 inb_S2x8_S1x1_0_0)
  | 1 => .dma (inS 0 1 inb_S2x8_S1x1_0_1)
  | 2 => .dma (inS 0 2 inb_S2x8_S1x1_0_2)
  | 3 => .dma (inS 0 3 inb_S2x8_S1x1_0_3)
  | 4 => .dma (inS 0 4 inb_S2x8_S1x1_0_4)
  | 5 => .dma (inS 0 5 inb_S2x8_S1x1_0_5)
  | 6 => .dma (inS 0 6 inb_S2x8_S1x1_0_6)
  | 7 => .dma (inS 0 7 inb_S2x8_S1x1_0_7)
  | 8 => .dma (inS 1 0 inb_S2x8_S1x1_1_0)
  | 9 => .dma (inS 1 1 inb_S2x8_S1x1_1_1)
  | 10 => .dma (inS 1 2 inb_S2x8_S1x1_1_2)
  | 11 => .dma (inS 1 3 inb_S2x8_S1x1_1_3)
  | 12 => .dma (inS 1 4 inb_S2x8_S1x1_1_4)
  | 13 => .dma (inS 1 5 inb_S2x8_S1x1_1_5)
  | 14 => .dma (inS 1 6 inb_S2x8_S1x1_1_6)
  | 15 => .dma (inS 1 7 inb_S2x8_S1x1_1_7)
  | 16 => .dma send0
  | 17 => .dma send1
  | 18 => .dma send2
  | 19 => .dma (recvS 0)
  | 20 => .dma (recvS 1)
  | 21 => .dma (recvS 2)
  | _ => .dma (recvS 3)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's own cells' duties: which semaphore, and who pays. -/
abbrev dutyOf (c : Dev nD) : Fin 9 → SemLoc sig × Dev nD := fun
  | 0 => (.reg barS, pl 3 c) | 1 => (.reg barS, pl 2 c) | 2 => (.reg barS, pl 1 c)
  | 3 => (.dma (recvS (pl 3 c)), pl 3 c) | 4 => (.dma (recvS (pl 2 c)), pl 2 c) | 5 => (.dma (recvS (pl 1 c)), pl 1 c)
  | 6 => (.dma send0, 0) | 7 => (.dma send1, 0) | 8 => (.dma send2, 0)
theorem dutyOf_injective (c : Dev nD) : Function.Injective (dutyOf c) := by revert c; decide
abbrev tokOf (cj : Dev nD × Fin 9) : GSem nD τ sig × ℕ × Dev nD := (((cj.1 : Thread nD τ), (dutyOf cj.1 cj.2).1), 0, (dutyOf cj.1 cj.2).2)
theorem tokOf_injective : Function.Injective (tokOf : Dev nD × Fin 9 → GSem nD τ sig × ℕ × Dev nD) := by
  rintro ⟨c, j⟩ ⟨c', j'⟩ h
  have h1 : c = c' := congrArg (fun x : GSem nD τ sig × ℕ × Dev nD => x.1.1.1) h
  subst h1
  have h2 : j = j' := dutyOf_injective c (congrArg (fun x : GSem nD τ sig × ℕ × Dev nD => (x.1.2, x.2.2)) h)
  rw [h2]
def ringToks : Finset (GSem nD τ sig × ℕ × Dev nD) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 (pl 3 c) ∗ dutyTok ER (barCell c) 0 (pl 2 c) ∗ dutyTok ER (barCell c) 0 (pl 1 c) ∗ dutyTok ER (recvCell c (pl 3 c)) 0 (pl 3 c) ∗ dutyTok ER (recvCell c (pl 2 c)) 0 (pl 2 c) ∗ dutyTok ER (recvCell c (pl 1 c)) 0 (pl 1 c)
    ∗ dutyTok ER (sendCell c send0) 0 0 ∗ dutyTok ER (sendCell c send1) 0 0 ∗ dutyTok ER (sendCell c send2) 0 0)

/-- What the launch deals device `c`. -/
def G (c : Dev nD) : sProp 𝕄 :=
  iprop((bigSep Finset.univ fun k : Fin 8 => roundState ER (Rd m) (kcell (c, k)) 0)
    ∗ (bigSep Finset.univ fun k : Fin 8 => iprop(atPos ER (kcell (c, k)) 0 ∅ 0 ∗ reached ER (kcell (c, k)) 0)) ∗ toks c)
/-- What device `c` has of it once the cells' invariants stand. -/
def G' (c : Dev nD) : sProp 𝕄 := iprop((∃ K, ghost m K c) ∗ semsX c ∗ semsY c)

omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The exchange's part of the launch element: every cell's state, its position and start, the duties' tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 8 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The call's own semaphores at zero: the copies', and those that are cells. -/
theorem ownSems0_eq (c : Dev nD) : (Pipeline.ownSems0 (Ix := Unit) (Name := ℕ) (U := UU) (Lvl := ℕ) (Val := Elt F) (τ := τ) osem c : sProp 𝕄)
    ⊣⊢ iprop(semsX c ∗ semsY c ∗ semVal (sendCell c send0) 0 ∗ semVal (sendCell c send1) 0 ∗ semVal (sendCell c send2) 0 ∗ bigSep Finset.univ fun j : Dev nD => semVal (recvCell c j) 0) := by
  have e1 : (Pipeline.ownSems0 (Ix := Unit) (Name := ℕ) (U := UU) (Lvl := ℕ) (Val := Elt F) (τ := τ) osem c : sProp 𝕄)
      = iprop(semVal ((c : Thread nD τ), SemLoc.dma (inS 0 0 inb_S2x8_S1x1_0_0)) 0 ∗ semVal ((c : Thread nD τ), SemLoc.dma (inS 0 1 inb_S2x8_S1x1_0_1)) 0 ∗ semVal ((c : Thread nD τ), SemLoc.dma (inS 0 2 inb_S2x8_S1x1_0_2)) 0 ∗ semVal ((c : Thread nD τ), SemLoc.dma (inS 0 3 inb_S2x8_S1x1_0_3)) 0 ∗ semVal ((c : Thread nD τ), SemLoc.dma (inS 0 4 inb_S2x8_S1x1_0_4)) 0 ∗ semVal ((c : Thread nD τ), SemLoc.dma (inS 0 5 inb_S2x8_S1x1_0_5)) 0 ∗ semVal ((c : Thread nD τ), SemLoc.dma (inS 0 6 inb_S2x8_S1x1_0_6)) 0 ∗ semVal ((c : Thread nD τ), SemLoc.dma (inS 0 7 inb_S2x8_S1x1_0_7)) 0 ∗ semVal ((c : Thread nD τ), SemLoc.dma (inS 1 0 inb_S2x8_S1x1_1_0)) 0 ∗ semVal ((c : Thread nD τ), SemLoc.dma (inS 1 1 inb_S2x8_S1x1_1_1)) 0 ∗ semVal ((c : Thread nD τ), SemLoc.dma (inS 1 2 inb_S2x8_S1x1_1_2)) 0 ∗ semVal ((c : Thread nD τ), SemLoc.dma (inS 1 3 inb_S2x8_S1x1_1_3)) 0 ∗ semVal ((c : Thread nD τ), SemLoc.dma (inS 1 4 inb_S2x8_S1x1_1_4)) 0 ∗ semVal ((c : Thread nD τ), SemLoc.dma (inS 1 5 inb_S2x8_S1x1_1_5)) 0 ∗ semVal ((c : Thread nD τ), SemLoc.dma (inS 1 6 inb_S2x8_S1x1_1_6)) 0 ∗ semVal ((c : Thread nD τ), SemLoc.dma (inS 1 7 inb_S2x8_S1x1_1_7)) 0 ∗ semVal ((c : Thread nD τ), SemLoc.dma send0) 0 ∗ semVal ((c : Thread nD τ), SemLoc.dma send1) 0 ∗ semVal ((c : Thread nD τ), SemLoc.dma send2) 0 ∗ semVal ((c : Thread nD τ), SemLoc.dma (recvS 0)) 0 ∗ semVal ((c : Thread nD τ), SemLoc.dma (recvS 1)) 0 ∗ semVal ((c : Thread nD τ), SemLoc.dma (recvS 2)) 0 ∗ semVal ((c : Thread nD τ), SemLoc.dma (recvS 3)) 0) := by
    rw [Pipeline.ownSems0_eq_of_list c osem [0, 1, 2, 3, 4, 5, 6, 7, 8, 9, 10, 11, 12, 13, 14, 15, 16, 17, 18, 19, 20, 21, 22] (by decide) (by decide)]; rfl
  have e2 : bigSep Finset.univ (fun j : Dev nD => (semVal (recvCell c j) 0 : sProp 𝕄))
      = iprop(semVal (recvCell c 0) 0 ∗ semVal (recvCell c 1) 0 ∗ semVal (recvCell c 2) 0 ∗ semVal (recvCell c 3) 0) :=
    bigSep_univ_eq_bigSepL [(0 : Dev nD), 1, 2, 3] (by decide) (by decide) _
  rw [e1, e2]
  unfold semsX semsY
  constructor
  · iintro ⟨H0, H1, H2, H3, H4, H5, H6, H7, H8, H9, H10, H11, H12, H13, H14, H15, H16, H17, H18, H19, H20, H21, H22⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14 H15]
    · isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [H16]; · iexact H16
    isplitl [H17]; · iexact H17
    isplitl [H18]; · iexact H18
    isplitl [H19]; · iexact H19
    isplitl [H20]; · iexact H20
    isplitl [H21]; · iexact H21
    iexact H22
  · iintro ⟨⟨H0, H1, H2, H3, H4, H5, H6, H7⟩, ⟨H8, H9, H10, H11, H12, H13, H14, H15⟩, H16, H17, H18, H19, H20, H21, H22⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
omit [FloatOps F] in
/-- The barrier semaphore is the launch's one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's receive cells: its own and the three others'. -/
theorem recvs_split (c : Dev nD) (Φ : Dev nD → sProp 𝕄) : bigSep Finset.univ Φ = iprop(Φ c ∗ Φ (pl 1 c) ∗ Φ (pl 2 c) ∗ Φ (pl 3 c)) := by
  rw [bigSep_eq_bigSepL_of_eq [c, pl 1 c, pl 2 c, pl 3 c] (by revert c; decide) (by revert c; decide)]
  simp only [bigSepL_cons_cons, bigSepL_singleton]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((semsX c ∗ semsY c) ∗ bigSep Finset.univ fun k : Fin 8 => semVal (kcell (c, k)) 0) : sProp 𝕄) := by
  rw [unscopedSems0_eq, cells_split c (fun g => semVal g 0)]
  iintro ⟨Ho, HB⟩
  ihave Ho' := (ownSems0_eq c).1 $$ Ho
  icases Ho' with ⟨HX, HY, H0, H1, H2, HR⟩
  ihave HR' := (Entails.of_eq (recvs_split c fun j => semVal (recvCell c j) 0)) $$ HR
  isplitl [HX HY]
  · isplitl [HX] <;> iassumption
  isplitl [HB]; · iexact HB
  isplitl [H0]; · iexact H0
  isplitl [H1]; · iexact H1
  isplitl [H2]; · iexact H2
  iexact HR'

/-- One device's semaphores become cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ (semsX c ∗ semsY c)) := by
  unfold G
  iintro ⟨Hos, Hus, Hst, Hat, Htok⟩
  ihave Hv := (sems0_eq (F := F) c) $$ [Hos Hus]
  · isplitl [Hos] <;> iassumption
  icases Hv with ⟨HXY, Hv⟩
  imod (show iprop((bigSep Finset.univ fun k : Fin 8 => semVal (kcell (c, k)) 0) ∗ bigSep Finset.univ fun k : Fin 8 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HXY

/-- What stays with one device: its positions, the tokens of the duties it pays, its copies' semaphores. -/
def linear (c : Dev nD) : sProp 𝕄 := iprop(starts c ∗ payToks c ∗ (semsX c ∗ semsY c))

theorem ghost_intro (K : Dev nD × Fin 8 → ℕ) (c : Dev nD) : iprop(records m K ∗ linear c) ⊢ G' m c := by
  unfold linear G' ghost
  iintro ⟨#HR, Hs, Hp, HXY⟩
  isplitl [Hs Hp]
  · iexists K
    isplitr; · iexact HR
    isplitl [Hs] <;> iassumption
  iexact HXY

omit [FloatOps F] in
/-- The tokens dealt around the ring, each to the device that pays its duty. -/
theorem toks_around : (bigSep Finset.univ fun c : Dev nD => (toks c : sProp 𝕄)) ⊢ bigSep Finset.univ fun c : Dev nD => payToks c := by
  unfold toks payToks
  simp only [bigSep_sep']
  rw [bigSep_univ_equiv turn1 (fun c : Dev nD => (dutyTok ER (barCell c) 0 (pl 3 c) : sProp 𝕄)),
    bigSep_univ_equiv turn2 (fun c : Dev nD => (dutyTok ER (barCell c) 0 (pl 2 c) : sProp 𝕄)),
    bigSep_univ_equiv turn1.symm (fun c : Dev nD => (dutyTok ER (barCell c) 0 (pl 1 c) : sProp 𝕄)),
    bigSep_univ_equiv turn1 (fun c : Dev nD => (dutyTok ER (recvCell c (pl 3 c)) 0 (pl 3 c) : sProp 𝕄)),
    bigSep_univ_equiv turn2 (fun c : Dev nD => (dutyTok ER (recvCell c (pl 2 c)) 0 (pl 2 c) : sProp 𝕄)),
    bigSep_univ_equiv turn1.symm (fun c : Dev nD => (dutyTok ER (recvCell c (pl 1 c)) 0 (pl 1 c) : sProp 𝕄))]
  have h1 : ∀ c, pl 3 (turn1 c) = c := pl_pl31
  have h2 : ∀ c, pl 2 (turn2 c) = c := pl_pl22
  have h3 : ∀ c, pl 1 (turn1.symm c) = c := pl_pl13
  simp only [h1, h2, h3]
  exact Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ (semsX c ∗ semsY c)) : sProp 𝕄)
      ⊢ bigSep Finset.univ (G' m) := by
  rw [bigSep_sep', bigSep_sep', bigSep_sep', ← bigSep_univ_prod (fun ck : Dev nD × Fin 8 => iprop(∃ κ : ℕ, cellInv ER (Rd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok, Hxy⟩
  ihave HK := (BI.bigSep_exists_pi Finset.univ (fun (ck : Dev nD × Fin 8) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · have hl : (bigSep Finset.univ (fun c : Dev nD => (linear c : sProp 𝕄)))
        = iprop((bigSep Finset.univ fun c : Dev nD => bigSep Finset.univ fun k : Fin 8 => (atPos ER (kcell (c, k)) 0 ∅ 0 : sProp 𝕄))
          ∗ (bigSep Finset.univ fun c : Dev nD => payToks c) ∗ bigSep Finset.univ fun c : Dev nD => iprop(semsX c ∗ semsY c)) := by
      rw [← bigSep_sep', ← bigSep_sep']
      exact bigSep_congr fun c _ => by unfold linear starts; rw [cells_split c (fun g => atPos ER g 0 ∅ 0)]
    iapply (Entails.of_eq hl.symm)
    isplitl [Hat]; · iexact Hat
    isplitl [Htk]; · iexact Htk
    iexact Hxy

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b i j : Dev nD} : Iff (recvCell a i = recvCell b j) (a = b ∧ i = j) :=
  ⟨fun h => ⟨congrArg (fun g : GSem nD τ sig => g.1.1) h, recv_inj (SemLoc.dma.inj (congrArg Prod.snd h))⟩, fun ⟨h, h'⟩ => by rw [h, h']⟩
theorem recv_ne_bar (a b i : Dev nD) : recvCell a i ≠ barCell b := fun h => by cases congrArg Prod.snd h

/-- Device `d` owes every other device's barrier one unit; -/
theorem owed_bar (d c : Dev nD) : O₀ d (barCell c) () = if d = c then 0 else 1 := by
  unfold O₀ OS2 OS3 OT1 OT2 OT3
  simp only [Pi.add_apply, Finsupp.add_apply, tallyAt_ne_cell (recv_ne_bar _ _ _).symm, Finsupp.zero_apply, tallyAt_apply, bar_eq_iff, and_true, Nat.zero_add]
  revert d c; decide
/-- and every other device's receive cell for it a slot's units. -/
theorem owed_recv (d c j : Dev nD) (hj : j ≠ c) : O₀ d (recvCell c j) () = if d = j then N else 0 := by
  unfold O₀ OS2 OS3 OT1 OT2 OT3
  simp only [Pi.add_apply, Finsupp.add_apply, tallyAt_ne_cell (recv_ne_bar _ _ _), Finsupp.zero_apply, tallyAt_apply, recv_eq_iff, and_true, Nat.add_zero]
  generalize N = n
  by_cases h : d = j
  · subst h
    have key : ∀ d c : Dev nD, d ≠ c → (c = pl 3 d ∧ c ≠ pl 1 d ∧ c ≠ pl 2 d) ∨ (c ≠ pl 3 d ∧ c = pl 1 d ∧ c ≠ pl 2 d) ∨ (c ≠ pl 3 d ∧ c ≠ pl 1 d ∧ c = pl 2 d) := by decide
    rcases key d c hj with ⟨h1, h2, h3⟩ | ⟨h1, h2, h3⟩ | ⟨h1, h2, h3⟩
    · rw [if_pos ⟨h1, rfl⟩, if_neg (fun e => h2 e.1), if_neg (fun e => h3 e.1), if_pos rfl, Nat.add_zero]
    · rw [if_neg (fun e => h1 e.1), if_pos ⟨h2, rfl⟩, if_neg (fun e => h3 e.1), if_pos rfl, Nat.zero_add, Nat.add_zero]
    · rw [if_neg (fun e => h1 e.1), if_neg (fun e => h2 e.1), if_pos ⟨h3, rfl⟩, if_pos rfl, Nat.zero_add]
  · have h' : ¬ (j = d) := fun e => h e.symm
    simp [h, h']

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c j : Dev nD) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => N,
    if_pos (Finset.mem_univ _)]

omit [FloatOps F] in
theorem creds (c : Dev nD) : (Pipeline.launchCred O₀ c : sProp 𝕄) ⊢ credits c := by
  unfold Pipeline.launchCred credits
  rw [← launch_bar c, ← launch_recv c (pl 1 c) (pl1_ne c), ← launch_recv c (pl 2 c) (pl2_ne c), ← launch_recv c (pl 3 c) (pl3_ne c)]
  refine (bigSep_subset (Finset.subset_univ ([SemLoc.reg barS, .dma (recvS (pl 1 c)), .dma (recvS (pl 2 c)), .dma (recvS (pl 3 c))] : List (SemLoc sig)).toFinset)).trans ?_
  rw [bigSep_eq_bigSepL_of_eq [SemLoc.reg barS, .dma (recvS (pl 1 c)), .dma (recvS (pl 2 c)), .dma (recvS (pl 3 c))] rfl (by revert c; decide)]
  simp only [bigSepL_cons_cons, bigSepL_singleton]
  exact Entails.refl _

/-! ## What the run takes and leaves -/

/-- The scale, which the call does not touch. -/
def argG (c : Dev nD) : sProp 𝕄 := iprop(((c : Thread nD τ).loc main_arg2) ↦{fullShare} m ((c : Thread nD τ).loc main_arg2))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ argG m c) := by
  rw [Pipeline.unscopedRestP_none, unscopedRest0_eq]
  unfold G' start
  iintro ⟨⟨HAX, HAY, HAG⟩, Hlev, Hcr, -, HG, HX, HY⟩
  ihave Hc := (creds (F := F) c) $$ Hcr
  imodintro
  isplitr [HAG]
  · isplitl [HG]; · iexact HG
    isplitl [HX]; · iexact HX
    isplitl [HY]; · iexact HY
    isplitl [Hc]; · iexact Hc
    isplitl [Hlev]; · iexact Hlev
    isplitl [HAX]; · unfold argX; iexact HAX
    unfold argY; iexact HAY
  unfold argG; iexact HAG

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop((unscopedSems0 c ∗ argX m c ∗ argY m c) ∗ Pipeline.ownSems0 osem c ∗ Pipeline.scopedRest cfg0.spec c) := by
  rw [show (dats m 0 c).Φ (Fin.last cfg0.N) = Φ₁ m c from rfl, scopedRest0_eq, unscopedSems0_eq]
  unfold Φ₁ zeros bufs
  iintro ⟨HAX, HAY, ⟨HB, H0, H1, H2, HR⟩, HX, HY, Hb⟩
  isplitl [HAX HAY HB]
  · isplitl [HB]; · iexact HB
    isplitl [HAX] <;> iassumption
  isplitr [Hb]
  · iapply (ownSems0_eq c).2
    isplitl [HX]; · iexact HX
    isplitl [HY]; · iexact HY
    isplitl [H0]; · iexact H0
    isplitl [H1]; · iexact H1
    isplitl [H2]; · iexact H2
    iapply (Entails.of_eq (recvs_split c fun j => semVal (recvCell c j) 0).symm)
    iexact HR
  iexact Hb

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr (Or.inr rfl))

/-- What the run leaves at device `c`: its result, its three arguments as they were. -/
def QC (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2)

omit [FloatOps F] in
/-- A buffer held whole is what the memory has there. -/
theorem read_whole (c : Dev nD) (b : Ref sig .tc) (f : Buf (Elt F) ((c : Thread nD τ).loc b)) (s' : Phys nD τ sig (Elt F)) :
    iprop(SI s' ∗ (((c : Thread nD τ).loc b) ↦{fullShare} f)) ⊢ (⌜s'.mem.mem ((c : Thread nD τ).loc b) = f⌝ : sProp 𝕄) :=
  SI_pointsTo_agree.trans (Laws.pure_mono fun h => funext fun i => h i (Finset.mem_univ i))

/-- At the end every device's unscoped semaphores and its arguments can be read off. -/
theorem exit_read (c : Dev nD) (s' : Phys nD τ sig (Elt F)) :
    iprop((unscopedSems0 c ∗ argX m c ∗ argY m c) ∗ argG m c ∗ SI s')
      ⊢ (|={Set.univ}=> iprop(⌜QC m c s'.mem ∧ ∀ sm : SemLoc sig, sm.isScoped .tc = false → s'.mem.sem ((c.tc : Thread nD τ), sm) = 0⌝ ∗ SI s') : sProp 𝕄) := by
  unfold argX argY argG
  iintro ⟨⟨Hu, HX, HY⟩, HG, HSI⟩
  ihave %h0 := (read_whole c main_arg0 _ s') $$ [HSI HX]
  · isplitl [HSI] <;> iassumption
  ihave %h1 := (read_whole c main_arg1 _ s') $$ [HSI HY]
  · isplitl [HSI] <;> iassumption
  ihave %h2 := (read_whole c main_arg2 _ s') $$ [HSI HG]
  · isplitl [HSI] <;> iassumption
  imod (Pipeline.unscopedSems0_read (X := unscopedSems0 c) (c := c) fupd_intro s') $$ [Hu HSI] with ⟨%h, HSI⟩
  · isplitl [Hu] <;> iassumption
  imodintro
  isplitr; · ipureintro; exact ⟨⟨h0, h1, h2⟩, h⟩
  iexact HSI

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The result array after the run is the body's. -/
theorem result_eq (c : Dev nD) : (dats m 0 c).arrAt (0 : Fin 1) cfg0.N = outV m c := by
  have h : (win0_0.blk (0 : Fin 1)).view.read (Elt F) ((dats m 0 c).arrAt (0 : Fin 1) cfg0.N) = outV m c := by
    rw [show cfg0.N = ((0 : Fin 1) : Fin cfg0.N).val + 1 from rfl, (dats m 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 :=
    funext fun a => by fin_cases a <;> decide
  exact (Memref.read_access_unit_zero (Elt F) main_v1 hz (fun a => by fin_cases a <;> decide) _).symm.trans h

set_option maxRecDepth 8000 in
/-- From any memory with zero counters every run of the program ends: each device's result holds the sums of the exchange,
    its arguments are unchanged, and every semaphore's counter is at zero. -/
theorem run_main : θ_run defs (onTc (τ := τ) (main (F := F))) ⟨m, fun _ => 0, ρ⟩
    (fun r => (∀ c : Dev nD, r.2.mem ((c : Thread nD τ).loc main_v1) = outV m c ∧ QC m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ argX m c ∗ argY m c)) (Z := argG m)
    (hX := start_intro m ρ) (hin := phi0_intro m) (hout := phi1_exit m)
    (QY := fun c s => QC m c s ∧ ∀ sm : SemLoc sig, sm.isScoped .tc = false → s.sem ((c.tc : Thread nD τ), sm) = 0)
    (hY := exit_read m)
    (hQ := fun _ h hs => ⟨fun c => ⟨((h c).1 (0 : Fin 1)).trans (result_eq m c), (h c).2.2.1⟩, sem_eq_zero hs fun c => (h c).2.2.2⟩)

end Cert.LayerNorm
-- ==== Proof.RowMath.lean ====
/-
# One row's normalization over the extended reals

The mean, the variance and the normalized entries of one row of 2048, as the kernel computes them, and the two facts the
reference's spelling needs: the variance plus the small constant is positive whatever the row holds, so the kernel's
reciprocal square root is the reference's quotient of one by the square root.
-/
module

public import Idealize.ShloMosaic.Lib.Pointwise
public import Idealize.ShloMosaic.Lib.IdealHost

@[expose] public section

noncomputable section

namespace Cert.LayerNorm

open Idealize.ShloMosaic

/-- The row's length, as the programs write it. -/
abbrev len : EReal := Ideal.ofBits .f32 0x45000000#32
/-- The small constant added to the variance. -/
abbrev eps : EReal := Ideal.ofBits .f32 0x3727C5AC#32

/-- A row's mean, -/
def rowMean (f : Fin 2048 → EReal) : EReal := Ideal.div (∑ k, f k) len
/-- its variance, -/
def rowVar (f : Fin 2048 → EReal) : EReal := Ideal.div (∑ k, (f k - rowMean f) * (f k - rowMean f)) len
/-- and its entries, normalized. -/
def hat (f : Fin 2048 → EReal) (j : Fin 2048) : EReal := (f j - rowMean f) * Ideal.rsqrt (rowVar f + eps)

/-- The row's length is the real 2048. -/
theorem len_eq : len = ((2048 : ℝ) : EReal) := by
  simp [len, Ideal.ofBits, Ideal.ieee, -EReal.coe_mul]; norm_num

/-- The small constant is positive. -/
theorem eps_pos : 0 < eps := by
  simp only [eps, Ideal.ofBits, Ideal.ieee]
  rw [if_neg (by decide), if_neg (by decide), EReal.coe_pos]
  simp

/-- A square is not negative. -/
theorem sq_nonneg' (x : EReal) : 0 ≤ x * x := by
  induction x with
  | bot => simp
  | top => simp
  | coe r => rw [← EReal.coe_mul, EReal.coe_nonneg]; exact mul_self_nonneg r

/-- A row's variance is not negative. -/
theorem rowVar_nonneg (f : Fin 2048 → EReal) : 0 ≤ rowVar f := by
  have h : (0 : EReal) ≤ ∑ k, (f k - rowMean f) * (f k - rowMean f) := Finset.sum_nonneg fun k _ => sq_nonneg' _
  rw [rowVar, len_eq, Ideal.div, if_neg (by norm_num)]
  exact mul_nonneg h (by rw [← EReal.coe_inv, EReal.coe_nonneg]; norm_num)

/-- Of a positive number, one divided by the square root is the reciprocal square root. -/
theorem one_div_sqrt {v : EReal} (hv : 0 < v) : Ideal.div 1 (Ideal.sqrt v) = Ideal.rsqrt v := by
  induction v with
  | bot => simp at hv
  | top => simp [Ideal.div]
  | coe r =>
    have hr : 0 < r := EReal.coe_pos.mp hv
    have hs : Real.sqrt r ≠ 0 := (Real.sqrt_pos.mpr hr).ne'
    rw [Ideal.sqrt_coe, Ideal.rsqrt_coe, if_neg hr.not_gt, if_neg hr.not_gt, if_neg hr.ne', Ideal.div,
      if_neg (by exact_mod_cast hs), one_mul, EReal.coe_inv]

/-- The reference's normalized entry is the kernel's. -/
theorem hat_eq (f : Fin 2048 → EReal) (j : Fin 2048) :
    (f j - rowMean f) * Ideal.div 1 (Ideal.sqrt (rowVar f + eps)) = hat f j := by
  rw [hat, one_div_sqrt (lt_of_lt_of_le eps_pos (le_add_of_nonneg_left (rowVar_nonneg f)))]

end Cert.LayerNorm
-- ==== Proof.BlockSums.lean ====
/-
# One device's sums over the extended reals

What a block of 256 rows contributes to each of the two rows of column sums, and the two rows after all eight blocks: the
sums over the device's 2048 rows.
-/
module

public import proofs.«01_k».proof.Proof.Contents
public import proofs.«01_k».proof.Proof.RowMath

@[expose] public section

noncomputable section

namespace Cert.LayerNorm

open Cert.KernelIdeal Cert.KernelIdeal.Gen
open Idealize.ShloMosaic

/-- The column sums of `dy * xhat` over one block of 256 rows, as the last of the eight steps computes them. -/
theorem lastPay_apply (X Y : S256x2048.Idx → EReal) (j : Fin 2048) :
    k0_pay31 (F := Ideal) X Y (ix1 j) = ∑ r : Fin 256, Y (ix2 r j) * hat (fun k => X (ix2 r k)) j := by
  pointwise [k0_pay31]
  simp only [hat, rowVar, rowMean]

/-- A block's row `r` is row `o + r` of the array. -/
theorem block_apply (o : ℕ) (h : ∀ a, (![o, 0] : Fin 2 → ℕ) a + S256x2048.size a ≤ S2048x2048.size a) (X : XTy (F := Ideal))
    (r : Fin 256) (j : Fin 2048) :
    block o h X (ix2 r j) = X (ix2 ⟨o + r.val, by have h0 : o + 256 ≤ 2048 := h 0; have := r.isLt; omega⟩ j) := by
  show X _ = X _
  congr 1
  funext a
  apply Fin.ext
  match a with
  | ⟨0, _⟩ =>
    show (((rows o h).emb (ix2 r j) 0 : Fin _) : ℕ) = _
    rw [Rect.emb_apply]
    show o + 1 * r.val = o + r.val
    omega
  | ⟨1, _⟩ =>
    show (((rows o h).emb (ix2 r j) 1 : Fin _) : ℕ) = _
    rw [Rect.emb_apply]
    show 0 + 1 * j.val = j.val
    omega

/-- A sum over 2048 rows, as eight sums over 256. -/
theorem sum_rows (f : Fin 2048 → EReal) :
    ∑ R, f R = (∑ r : Fin 256, f ⟨0 + r.val, by have := r.isLt; omega⟩)
      + (∑ r : Fin 256, f ⟨256 + r.val, by have := r.isLt; omega⟩)
      + (∑ r : Fin 256, f ⟨512 + r.val, by have := r.isLt; omega⟩)
      + (∑ r : Fin 256, f ⟨768 + r.val, by have := r.isLt; omega⟩)
      + (∑ r : Fin 256, f ⟨1024 + r.val, by have := r.isLt; omega⟩)
      + (∑ r : Fin 256, f ⟨1280 + r.val, by have := r.isLt; omega⟩)
      + (∑ r : Fin 256, f ⟨1536 + r.val, by have := r.isLt; omega⟩)
      + (∑ r : Fin 256, f ⟨1792 + r.val, by have := r.isLt; omega⟩) := by
  have e : ∑ R, f R = ∑ a : Fin 8, ∑ r : Fin 256, f ⟨256 * a.val + r.val, by have := a.isLt; have := r.isLt; omega⟩ := by
    rw [← Fintype.sum_prod_type' (f := fun (a : Fin 8) (r : Fin 256) => f ⟨256 * a.val + r.val, by have := a.isLt; have := r.isLt; omega⟩)]
    refine (Fintype.sum_equiv (finProdFinEquiv (m := 8) (n := 256)) _ _ fun p => ?_).symm
    exact congrArg f (Fin.ext (Nat.add_comm _ _))
  rw [e, Fin.sum_univ_eight]
  rfl

section
variable (X Y : XTy (F := Ideal))

/-- The first row of sums: `dy * xhat` down each column of the device's rows. -/
theorem sumG_apply (j : Fin 2048) :
    sumG X Y (ix2 0 j) = ∑ R : Fin 2048, Y (ix2 R j) * hat (fun k => X (ix2 R k)) j := by
  have e : sumG X Y (ix2 0 j) = ((((((((0
      + k0_pay31 (F := Ideal) (blk0 X) (blk0 Y) (ix1 j)) + k0_pay31 (F := Ideal) (blk1 X) (blk1 Y) (ix1 j))
      + k0_pay31 (F := Ideal) (blk2 X) (blk2 Y) (ix1 j)) + k0_pay31 (F := Ideal) (blk3 X) (blk3 Y) (ix1 j))
      + k0_pay31 (F := Ideal) (blk4 X) (blk4 Y) (ix1 j)) + k0_pay31 (F := Ideal) (blk5 X) (blk5 Y) (ix1 j))
      + k0_pay31 (F := Ideal) (blk6 X) (blk6 Y) (ix1 j)) + k0_pay31 (F := Ideal) (blk7 X) (blk7 Y) (ix1 j)) := by
    simp only [lastPay_apply, hat, rowVar, rowMean, len, eps]
    pointwise [sumG, lastG, g7, g6, g5, g4, g3, g2, g1, k0_pay1, k0_pay3, k0_pay4, k0_pay5, k0_pay7, k0_pay8, k0_pay9, k0_pay11,
      k0_pay12, k0_pay13, k0_pay14, k0_pay16, k0_pay17, k0_pay18, k0_pay20, k0_pay21, k0_pay22, k0_pay24, k0_pay25, k0_pay26,
      k0_pay28, k0_pay29, k0_pay31, k0_pay32]
    -- the two constants, by name
    generalize Ideal.ofBits FTy.f32 1157627904#32 = n
    generalize Ideal.ofBits FTy.f32 925353388#32 = e
    with_reducible rfl
  rw [e, sum_rows]
  simp only [lastPay_apply, block_apply, Nat.zero_add, zero_add]

/-- The second row: `dy` down each column. -/
theorem sumB_apply (j : Fin 2048) : sumB Y (ix2 0 j) = ∑ R : Fin 2048, Y (ix2 R j) := by
  rw [sum_rows]
  pointwise [sumB, b7, b6, b5, b4, b3, b2, b1, k0_pay2, k0_pay6, k0_pay10, k0_pay15, k0_pay19, k0_pay23, k0_pay27, k0_pay30, k0_pay33]
  simp only [block_apply, Nat.zero_add]

end

end Cert.LayerNorm
-- ==== Proof.RefValue.lean ====
/-
# What the reference computes

The reference's result as a function of the whole `x` and `dy`, step by step as its text writes it, and its value at an
index over the extended reals: sums over all 8192 rows.
-/
module

public import proofs.«01_k».proof.Proof.Gen.ReferenceIdeal.Run
public import proofs.«01_k».proof.Proof.RowMath

@[expose] public section

noncomputable section

namespace Cert.LayerNorm.Ref

open Cert.ReferenceIdeal Cert.ReferenceIdeal.Gen
open Idealize.ShloMosaic Idealize.ShloMosaic.TcCoe Idealize.ShloMosaic.StableHlo Idealize.SL.Sem

/-- The whole array's type. -/
abbrev WTy : Type := FVec Ideal S8192x2048 .f32

variable (X Y : WTy)

/-- Each row's mean, -/
def mean : FVec Ideal S8192x1 .f32 :=
  Host.divf (broadcastInDim S8192x1 ![0] bcast_S8192_S8192x1_0 (Host.reduceAdd X (constant S_ .f32 0x00000000#32) reducesTo_S8192x2048_S8192_d1 h_S_)) (broadcastInDim S8192x1 ![] bcast_S_S8192x1 (constant S_ .f32 0x45000000#32))
/-- the array with its rows' means taken off, -/
def centred : WTy := subf X (broadcastInDim S8192x2048 ![0, 1] bcast_S8192x1_S8192x2048_0_1 (mean X))
/-- what the variance's sum is divided by, -/
def count : FVec Ideal S_ .f32 := subf (constant S_ .f32 0x45000000#32) (sitofp .f32 (constantI S_ 32 0#32))
/-- each row's variance, -/
def var : FVec Ideal S8192x1 .f32 :=
  select (broadcastInDim S8192x1 ![] bcast_S_S8192x1 (cmpf .ogt count (constant S_ .f32 0x00000000#32))) (Host.divf (broadcastInDim S8192x1 ![0] bcast_S8192_S8192x1_0 (Host.reduceAdd (mulf (centred X) (centred X)) (constant S_ .f32 0x00000000#32) reducesTo_S8192x2048_S8192_d1 h_S_)) (broadcastInDim S8192x1 ![] bcast_S_S8192x1 count)) (broadcastInDim S8192x1 ![] bcast_S_S8192x1 (id (constant S_ .f32 0x7FC00000#32)))
/-- one divided by each row's standard deviation, -/
def rstd : FVec Ideal S8192x1 .f32 :=
  Host.divf (broadcastInDim S8192x1 ![] bcast_S_S8192x1 (constant S_ .f32 0x3F800000#32)) (Host.sqrt (addf (var X) (broadcastInDim S8192x1 ![] bcast_S_S8192x1 (constant S_ .f32 0x3727C5AC#32))))
/-- `dy` times the normalized array, -/
def prod : WTy := mulf Y (mulf (centred X) (broadcastInDim S8192x2048 ![0, 1] bcast_S8192x1_S8192x2048_0_1 (rstd X)))
/-- and the result: its column sums above those of `dy`. -/
def out : FVec Ideal S2x2048 .f32 :=
  concatenate S2x2048 0 [⟨S1x2048, broadcastInDim S1x2048 ![1] bcast_S2048_S1x2048_1 (Host.reduceAdd (prod X Y) (constant S_ .f32 0x00000000#32) reducesTo_S8192x2048_S2048_d0 h_S_)⟩,
    ⟨S1x2048, broadcastInDim S1x2048 ![1] bcast_S2048_S1x2048_1 (Host.reduceAdd Y (constant S_ .f32 0x00000000#32) reducesTo_S8192x2048_S2048_d0 h_S_)⟩] concatenates_S1x2048_S1x2048_S2x2048_d0

/-- Every run of the reference ends with `out` of the arguments in its result and the arguments as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-! ## At an index -/

/-- A row's mean. -/
theorem mean_apply (R : Fin 8192) : mean X (ix2 R 0) = rowMean fun k => X (ix2 R k) := by
  pointwise [mean]
  simp only [rowMean]

/-- An entry with its row's mean taken off. -/
theorem centred_apply (R : Fin 8192) (j : Fin 2048) : centred X (ix2 R j) = X (ix2 R j) - rowMean fun k => X (ix2 R k) := by
  pointwise [centred]
  rw [mean_apply]

/-- The sum of squares is divided by the row's length, -/
theorem count_apply (i : S_.Idx) : count i = len := by
  pointwise [count]
  show len - (((0#32).toInt : ℝ) : EReal) = len
  rw [show (0#32).toInt = 0 from rfl, Int.cast_zero, EReal.coe_zero, sub_zero]

/-- which is positive, so the variance is the quotient. -/
theorem var_apply (R : Fin 8192) : var X (ix2 R 0) = rowVar fun k => X (ix2 R k) := by
  pointwise [var]
  simp only [count_apply, centred_apply]
  rw [if_pos (by rw [len_eq]; exact_mod_cast (by norm_num : (0 : ℝ) < 2048)), rowVar]

/-- One divided by a row's standard deviation. -/
theorem rstd_apply (R : Fin 8192) : rstd X (ix2 R 0) = Ideal.div 1 (Ideal.sqrt (rowVar (fun k => X (ix2 R k)) + eps)) := by
  pointwise [rstd]
  rw [var_apply]

/-- `dy` times the normalized entry. -/
theorem prod_apply (R : Fin 8192) (j : Fin 2048) : prod X Y (ix2 R j) = Y (ix2 R j) * hat (fun k => X (ix2 R k)) j := by
  pointwise [prod]
  rw [centred_apply, rstd_apply]
  exact congrArg _ (hat_eq (fun k => X (ix2 R k)) j)

/-- The result's first row: `dy * xhat` summed down each column of the whole arrays; -/
theorem out_zero (j : Fin 2048) : out X Y (ix2 0 j) = ∑ R : Fin 8192, Y (ix2 R j) * hat (fun k => X (ix2 R k)) j := by
  pointwise [out]
  simp only [prod_apply]

/-- its second: `dy` summed down each column. -/
theorem out_one (j : Fin 2048) : out X Y (ix2 1 j) = ∑ R : Fin 8192, Y (ix2 R j) := by
  pointwise [out]

end Cert.LayerNorm.Ref
-- ==== Proof.Value.lean ====
/-
# The kernel's result is the reference's

Device `c` holds rows `2048 c` to `2048 c + 2047` of the whole arrays. The four devices' sums over their own rows, added in
whatever order, are the sums over all 8192 rows: the addition of extended reals is commutative and associative.
-/
module

public import proofs.«01_k».proof.Proof.BlockSums
public import proofs.«01_k».proof.Proof.RefValue
public import Idealize.ShloMosaic.Lib.Layout
public import Idealize.ShloMosaic.Lib.Pointwise.IndexBridge

@[expose] public section

noncomputable section

namespace Cert.LayerNorm

open Cert.KernelIdeal Cert.KernelIdeal.Gen
open Idealize.ShloMosaic Idealize.ShloMosaic.TcCoe

/-- A sum over the whole array's rows, device by device. -/
theorem sum_devices (f : Fin 8192 → EReal) :
    ∑ R, f R = ∑ c : Fin 4, ∑ r : Fin 2048, f ⟨c.val * 2048 + r.val, by have := c.isLt; have := r.isLt; omega⟩ := by
  rw [← Fintype.sum_prod_type' (f := fun (c : Fin 4) (r : Fin 2048) => f ⟨c.val * 2048 + r.val, by have := c.isLt; have := r.isLt; omega⟩)]
  refine (Fintype.sum_equiv (finProdFinEquiv (m := 4) (n := 2048)) _ _ fun p => ?_).symm
  exact congrArg f (Fin.ext (by show p.1.val * 2048 + p.2.val = p.2.val + 2048 * p.1.val; omega))

/-- Four summands, from any device on around the ring in the kernel's order, are the sum over the devices. -/
theorem ring_sum (f : Fin 4 → EReal) (c : Dev nD) : f c + f (pl 1 c) + f (pl 3 c) + f (pl 2 c) = ∑ d : Fin 4, f d := by
  rw [Fin.sum_univ_four]
  have h : c = 0 ∨ c = 1 ∨ c = 2 ∨ c = 3 := by revert c; decide
  rcases h with rfl | rfl | rfl | rfl
  · rw [show pl 1 0 = 1 by decide, show pl 3 0 = 3 by decide, show pl 2 0 = 2 by decide]; abel
  · rw [show pl 1 1 = 2 by decide, show pl 3 1 = 0 by decide, show pl 2 1 = 3 by decide]; abel
  · rw [show pl 1 2 = 3 by decide, show pl 3 2 = 1 by decide, show pl 2 2 = 0 by decide]; abel
  · rw [show pl 1 3 = 0 by decide, show pl 3 3 = 2 by decide, show pl 2 3 = 1 by decide]; abel

variable (m : (ℓ : Loc nD τ sig) → Buf (Elt Ideal) ℓ)

/-- A device's result at an index: its own entry and the other three devices'. -/
theorem outV_apply (c : Dev nD) (a : Fin 2) (j : Fin 2048) :
    outV m c (ix2 a j) = ∑ d : Fin 4, part m d (ix2 a j) := by
  rw [← ring_sum (fun d => part m d (ix2 a j)) c]
  pointwise [outV, out2, out1, slotV, k0_pay36, k0_pay37, k0_pay38]
  simp only [← ix2_eq_valueIdx]

/-- The entries of a device's two rows. -/
theorem part_zero (c : Dev nD) (j : Fin 2048) : part m c (ix2 0 j) = sumG (Xd m c) (Yd m c) (ix2 0 j) := by
  rw [part, partV, ix2_eq_valueIdx, ix2_eq_valueIdx]; exact if_pos rfl
theorem part_one (c : Dev nD) (j : Fin 2048) : part m c (ix2 1 j) = sumB (Yd m c) (ix2 0 j) := by
  rw [part, partV, ix2_eq_valueIdx, ix2_eq_valueIdx]; exact if_neg Nat.one_ne_zero

section Agree
set_option backward.proofsInPublic true
variable (X Y : Ref.WTy)
  (hX : ∀ c : Dev nD, Xd m c = Layout.block ⟨2, ![2048, 2048]⟩ ⟨2, ![8192, 2048]⟩ 0 4 c X)
  (hY : ∀ c : Dev nD, Yd m c = Layout.block ⟨2, ![2048, 2048]⟩ ⟨2, ![8192, 2048]⟩ 0 4 c Y)

/-- Row `r` of a device's block is row `2048 c + r` of the whole. -/
theorem layout_apply (c : Fin 4) (X : Ref.WTy) (r j : Fin 2048) :
    Layout.block (⟨2, ![2048, 2048]⟩ : Shape) ⟨2, ![8192, 2048]⟩ 0 4 c X (by decide) (ix2 r j)
      = X (ix2 ⟨c.val * 2048 + r.val, by have := c.isLt; have := r.isLt; omega⟩ j) := by
  rw [Layout.block_apply]
  congr 1
  funext a
  apply Fin.ext
  match a with
  | ⟨0, _⟩ => rfl
  | ⟨1, _⟩ => rfl

include hX hY in
/-- When each device's arrays are its blocks of the whole ones, every device ends with the reference's result. -/
theorem outV_eq (c : Dev nD) : outV m c = Ref.out X Y := by
  funext i
  obtain ⟨a, j, rfl⟩ : ∃ (a : Fin 2) (j : Fin 2048), i = ix2 a j := ⟨i 0, i 1, eq_ix2 i⟩
  rw [outV_apply]
  match a with
  | ⟨0, _⟩ =>
    refine Eq.trans ?_ (Ref.out_zero X Y j).symm
    rw [sum_devices]
    refine Finset.sum_congr rfl fun d _ => ?_
    refine (part_zero m d j).trans ((sumG_apply _ _ j).trans ?_)
    rw [hX d, hY d]
    simp only [layout_apply]
  | ⟨1, _⟩ =>
    refine Eq.trans ?_ (Ref.out_one X Y j).symm
    rw [sum_devices]
    refine Finset.sum_congr rfl fun d _ => ?_
    refine (part_one m d j).trans ((sumB_apply _ j).trans ?_)
    rw [hY d]
    simp only [layout_apply]

end Agree

end Cert.LayerNorm
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every run of the kernel, at any float values, ends with every counter at zero and the arguments as they were. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, Cert.LayerNorm.QC m c r.2) ∧ r.2.sem = fun _ => 0) :=
  (θ_run Cert.KernelIdeal.defs _ _).mono (fun _ h => ⟨fun c => (h.1 c).2, h.2⟩) (Cert.LayerNorm.run_main m ρ)

/-- The body of the launch is the same table of procedures in the kernel as printed and in its reading over the extended
    reals. -/
theorem bodies_eq {F : FTy → Type} [FloatOps F] : Cert.Kernel.defs₀ (F := F) = Cert.KernelIdeal.defs₀ := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

/-- So are the tables of all procedures. -/
theorem defs_eq {F : FTy → Type} [FloatOps F] : Cert.Kernel.defs (F := F) = Cert.KernelIdeal.defs :=
  congrArg (Pipeline.defs Cert.KernelIdeal.pcfgs) bodies_eq

/-- Every run of the kernel as printed, on bit patterns, ends with every counter at zero and the arguments as they were. -/
theorem frame_kernel : Cert.quiescent_Kernel := by
  intro m ρ _
  rw [defs_eq]
  exact frame_any (F := Bits) m ρ

/-- Every run of the kernel over the extended reals ends with every counter at zero and the arguments as they were. -/
theorem frame_kernelIdeal : Cert.quiescent_KernelIdeal := fun m ρ _ => frame_any (F := Ideal) m ρ

/-- Every run of the reference ends with the arguments as they were; it has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.LayerNorm.Ref.run_out m ρ)

/-- Over the extended reals, every run of the kernel on the blocks of the reference's arguments ends with the reference's
    result on every device. -/
theorem algebraic : Cert.algebraic_KernelIdeal_ReferenceIdeal := by
  intro m g m' g' _ hagree
  refine ⟨Cert.LayerNorm.Ref.out
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans
        (Cert.LayerNorm.outV_eq m _ _ (fun c => (hagree c).1) (fun c => (hagree c).2.1) c), (h.1 c).2⟩)
      (Cert.LayerNorm.run_main (F := Ideal) m g)
  · exact (θ_run Cert.ReferenceIdeal.defs _ _).mono (fun _ h => h 0) (Cert.LayerNorm.Ref.run_out m' g')

/-- The claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
